-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Mixers (m : (ℓ : Loc Cert.Mixers.nD Cert.Mixers.τ Cert.Mixers.sig) → Buf (Elt Bits) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5)
      ∧ r.2.mem ((c.tc : Thread Cert.Mixers.nD Cert.Mixers.τ).loc Cert.Mixers.main_arg6) = m ((c.tc : Thread Cert.Mixers.nD Cert.Mixers.τ).loc Cert.Mixers.main_arg6)
      ∧ r.2.mem ((c.tc : Thread Cert.Mixers.nD Cert.Mixers.τ).loc Cert.Mixers.main_arg7) = m ((c.tc : Thread Cert.Mixers.nD Cert.Mixers.τ).loc Cert.Mixers.main_arg7)
      ∧ r.2.mem ((c.tc : Thread Cert.Mixers.nD Cert.Mixers.τ).loc Cert.Mixers.main_arg8) = m ((c.tc : Thread Cert.Mixers.nD Cert.Mixers.τ).loc Cert.Mixers.main_arg8)
      ∧ r.2.mem ((c.tc : Thread Cert.Mixers.nD Cert.Mixers.τ).loc Cert.Mixers.main_arg9) = m ((c.tc : Thread Cert.Mixers.nD Cert.Mixers.τ).loc Cert.Mixers.main_arg9)
      ∧ r.2.mem ((c.tc : Thread Cert.Mixers.nD Cert.Mixers.τ).loc Cert.Mixers.main_arg10) = m ((c.tc : Thread Cert.Mixers.nD Cert.Mixers.τ).loc Cert.Mixers.main_arg10)
      ∧ r.2.mem ((c.tc : Thread Cert.Mixers.nD Cert.Mixers.τ).loc Cert.Mixers.main_arg11) = m ((c.tc : Thread Cert.Mixers.nD Cert.Mixers.τ).loc Cert.Mixers.main_arg11)
      ∧ r.2.mem ((c.tc : Thread Cert.Mixers.nD Cert.Mixers.τ).loc Cert.Mixers.main_arg12) = m ((c.tc : Thread Cert.Mixers.nD Cert.Mixers.τ).loc Cert.Mixers.main_arg12))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v37) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  IdealRules.named_const.Statement Cert.InprojIdeal.κ "qscale" .f32 0x3E16C740#32 (((Real.sqrt 96)⁻¹ * (Real.log 2)⁻¹ : ℝ) : EReal)

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v14)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v14) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v73) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def preserves_Memkv_MemkvIdeal : Prop :=
  True

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hPost : Cert.Post.Facts) (hPostIdeal : Cert.PostIdeal.Facts) (hPostRefIdeal : Cert.PostRefIdeal.Facts) (hMemkv : Cert.Memkv.Facts) (hMemkvIdeal : Cert.MemkvIdeal.Facts) (hMemkvRefIdeal : Cert.MemkvRefIdeal.Facts) (hMixers : Cert.Mixers.Facts) (hPre_attn_finite : Cert.Pre_attn_finite.Facts) (hPre_post_finite : Cert.Pre_post_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Mixers (hMixers := hMixers)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Ffn_FfnIdeal
    ∧ algebraic_FfnIdeal_FfnRefIdeal (hFfnIdeal := hFfnIdeal) (hFfnRefIdeal := hFfnRefIdeal)
    ∧ preserves_Inproj_InprojIdeal
    ∧ preserves_Post_PostIdeal
    ∧ algebraic_PostIdeal_PostRefIdeal_pre_post_finite (hPostIdeal := hPostIdeal) (hPostRefIdeal := hPostRefIdeal) (hPre_post_finite := hPre_post_finite)
    ∧ preserves_Memkv_MemkvIdeal
-- ==== Pre_attn_finite.lean ====
abbrev S8x8x512x512 : Shape := ⟨4, ![8, 8, 512, 512]⟩
abbrev S32768x512 : Shape := ⟨2, ![32768, 512]⟩
abbrev S8x8x320x512 : Shape := ⟨4, ![8, 8, 320, 512]⟩
abbrev S8x8x4x80x512 : Shape := ⟨5, ![8, 8, 4, 80, 512]⟩
abbrev S8x8x4x1x512 : Shape := ⟨5, ![8, 8, 4, 1, 512]⟩
abbrev S8x8x4x512 : Shape := ⟨4, ![8, 8, 4, 512]⟩
abbrev S_ : Shape := ⟨0, ![]⟩

class Facts : Prop where
  bitsLt_bf16_f32 : FTy.bits .bf16 < FTy.bits .f32
  shapeCasts_S8x8x320x512_S8x8x4x80x512 : S8x8x320x512.ShapeCasts S8x8x4x80x512
  slices_S8x8x4x80x512_S8x8x4x1x512_0_0_0_64_0 : S8x8x4x80x512.Slices ![0, 0, 0, 64, 0] S8x8x4x1x512
  shapeCasts_S8x8x4x1x512_S8x8x4x512 : S8x8x4x1x512.ShapeCasts S8x8x4x512
  bcast_S_S8x8x512x512 : S_.BroadcastsInDim S8x8x512x512 (![] : Fin 0 → Fin S8x8x512x512.rank)
  reducesTo_S8x8x512x512_S_d0_1_2_3 : S8x8x512x512.ReducesTo [0, 1, 2, 3] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S8x8x320x512 : S_.BroadcastsInDim S8x8x320x512 (![] : Fin 0 → Fin S8x8x320x512.rank)
  reducesTo_S8x8x320x512_S_d0_1_2_3 : S8x8x320x512.ReducesTo [0, 1, 2, 3] S_
  bcast_S_S8x8x4x512 : S_.BroadcastsInDim S8x8x4x512 (![] : Fin 0 → Fin S8x8x4x512.rank)
  reducesTo_S8x8x4x512_S_d0_1_2_3 : S8x8x4x512.ReducesTo [0, 1, 2, 3] S_

variable [Facts]

def fn_part1 {F : FTy → Type} [FloatOps F] (main_v5 : FVec F S8x8x4x512 .f32) (main_v14 : IVec S_ 1) (main_v17 : IVec S8x8x320x512 1) (main_c_3 : IVec S_ 1) : IVec S_ 1 :=
  let main_v18 : IVec S_ 1 := (fun x v => Host.reduce IntOp.andi x v reducesTo_S8x8x320x512_S_d0_1_2_3 h_S_) main_v17 main_c_3
  let main_v19 : IVec S_ 1 := andi main_v14 main_v18
  let main_cst_4 : FVec F S_ .f32 := constant S_ .f32 0x3F800000#32
  let main_v20 : FVec F S8x8x4x512 .f32 := broadcastInDim S8x8x4x512 ![] bcast_S_S8x8x4x512 main_cst_4
  let main_v21 : IVec S8x8x4x512 1 := cmpf .oeq main_v5 main_v20
  let main_c_5 : IVec S_ 1 := constantI S_ 1 1#1
  let main_v22 : IVec S_ 1 := (fun x v => Host.reduce IntOp.andi x v reducesTo_S8x8x4x512_S_d0_1_2_3 h_S_) main_v21 main_c_5
  let main_v23 : IVec S_ 1 := andi main_v19 main_v22
  main_v23

def fn {F : FTy → Type} [FloatOps F] (main_arg0 : FVec F S8x8x512x512 .bf16) (main_arg1 : FVec F S32768x512 .bf16) (main_arg2 : FVec F S8x8x320x512 .bf16) : IVec S_ 1 :=
  let main_v0 : FVec F S8x8x512x512 .f32 := (extf .f32 · bitsLt_bf16_f32) main_arg0
  let main_v1 : FVec F S32768x512 .f32 := (extf .f32 · bitsLt_bf16_f32) main_arg1
  let main_v2 : FVec F S8x8x320x512 .f32 := (extf .f32 · bitsLt_bf16_f32) main_arg2
  let main_v3 : FVec F S8x8x4x80x512 .f32 := shapeCast S8x8x4x80x512 main_v2 shapeCasts_S8x8x320x512_S8x8x4x80x512
  let main_v4 : FVec F S8x8x4x1x512 .f32 := (extractStridedSlice S8x8x4x1x512 ![0, 0, 0, 64, 0] · slices_S8x8x4x80x512_S8x8x4x1x512_0_0_0_64_0) main_v3
  let main_v5 : FVec F S8x8x4x512 .f32 := shapeCast S8x8x4x512 main_v4 shapeCasts_S8x8x4x1x512_S8x8x4x512
  let main_v6 : FVec F S8x8x512x512 .f32 := Host.absf main_v0
  let main_cst : FVec F S_ .f32 := constant S_ .f32 0x7F800000#32
  let main_v7 : FVec F S8x8x512x512 .f32 := broadcastInDim S8x8x512x512 ![] bcast_S_S8x8x512x512 main_cst
  let main_v8 : IVec S8x8x512x512 1 := cmpf .olt main_v6 main_v7
  let main_c : IVec S_ 1 := constantI S_ 1 1#1
  let main_v9 : IVec S_ 1 := (fun x v => Host.reduce IntOp.andi x v reducesTo_S8x8x512x512_S_d0_1_2_3 h_S_) main_v8 main_c
  let main_v10 : FVec F S32768x512 .f32 := Host.absf main_v1
  let main_cst_0 : FVec F S_ .f32 := constant S_ .f32 0x7F800000#32
  let main_v11 : FVec F S32768x512 .f32 := broadcastInDim S32768x512 ![] bcast_S_S32768x512 main_cst_0
  let main_v12 : IVec S32768x512 1 := cmpf .olt main_v10 main_v11
  let main_c_1 : IVec S_ 1 := constantI S_ 1 1#1
  let main_v13 : IVec S_ 1 := (fun x v => Host.reduce IntOp.andi x v reducesTo_S32768x512_S_d0_1 h_S_) main_v12 main_c_1
  let main_v14 : IVec S_ 1 := andi main_v9 main_v13
  let main_v15 : FVec F S8x8x320x512 .f32 := Host.absf main_v2
  let main_cst_2 : FVec F S_ .f32 := constant S_ .f32 0x7F800000#32
  let main_v16 : FVec F S8x8x320x512 .f32 := broadcastInDim S8x8x320x512 ![] bcast_S_S8x8x320x512 main_cst_2
  let main_v17 : IVec S8x8x320x512 1 := cmpf .olt main_v15 main_v16
  let main_c_3 : IVec S_ 1 := constantI S_ 1 1#1
  fn_part1 (F := F) main_v5 main_v14 main_v17 main_c_3
-- ==== Pre_post_finite.lean ====
abbrev S32768x1024 : Shape := ⟨2, ![32768, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S8x1024x256 : Shape := ⟨3, ![8, 1024, 256]⟩
abbrev S8x256x1024 : Shape := ⟨3, ![8, 256, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  bcast_S_S32768x256 : S_.BroadcastsInDim S32768x256 (![] : Fin 0 → Fin S32768x256.rank)
  reducesTo_S32768x256_S_d0_1 : S32768x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn_part2 {F : FTy → Type} [FloatOps F] (main_arg7 : FVec F S1024x1024 .f32) (main_arg8 : FVec F S8x1024x256 .bf16) (main_v32 : IVec S_ 1) (main_v33 : FVec F S1024 .f32) (main_cst_11 : FVec F S_ .f32) : IVec S_ 1 :=
  let main_v34 : FVec F S1024 .f32 := broadcastInDim S1024 ![] bcast_S_S1024 main_cst_11
  let main_v35 : IVec S1024 1 := cmpf .olt main_v33 main_v34
  let main_c_12 : IVec S_ 1 := constantI S_ 1 1#1
  let main_v36 : IVec S_ 1 := (fun x v => Host.reduce IntOp.andi x v reducesTo_S1024_S_d0 h_S_) main_v35 main_c_12
  let main_v37 : IVec S_ 1 := andi main_v32 main_v36
  let main_v38 : FVec F S1024x1024 .f32 := Host.absf main_arg7
  let main_cst_13 : FVec F S_ .f32 := constant S_ .f32 0x7F800000#32
  let main_v39 : FVec F S1024x1024 .f32 := broadcastInDim S1024x1024 ![] bcast_S_S1024x1024 main_cst_13
  let main_v40 : IVec S1024x1024 1 := cmpf .olt main_v38 main_v39
  let main_c_14 : IVec S_ 1 := constantI S_ 1 1#1
  let main_v41 : IVec S_ 1 := (fun x v => Host.reduce IntOp.andi x v reducesTo_S1024x1024_S_d0_1 h_S_) main_v40 main_c_14
  let main_v42 : IVec S_ 1 := andi main_v37 main_v41
  let main_v43 : FVec F S8x1024x256 .f32 := (extf .f32 · bitsLt_bf16_f32) main_arg8
  let main_v44 : FVec F S8x1024x256 .f32 := Host.absf main_v43
  let main_cst_15 : FVec F S_ .f32 := constant S_ .f32 0x7F800000#32
  let main_v45 : FVec F S8x1024x256 .f32 := broadcastInDim S8x1024x256 ![] bcast_S_S8x1024x256 main_cst_15
  let main_v46 : IVec S8x1024x256 1 := cmpf .olt main_v44 main_v45
  let main_c_16 : IVec S_ 1 := constantI S_ 1 1#1
  let main_v47 : IVec S_ 1 := (fun x v => Host.reduce IntOp.andi x v reducesTo_S8x1024x256_S_d0_1_2 h_S_) main_v46 main_c_16
  let main_v48 : IVec S_ 1 := andi main_v42 main_v47
  main_v48

def fn_part1 {F : FTy → Type} [FloatOps F] (main_arg3 : FVec F S32768x256 .bf16) (main_arg4 : FVec F S1024x1024 .f32) (main_arg5 : FVec F S1024 .f32) (main_arg6 : FVec F S1024 .f32) (main_arg7 : FVec F S1024x1024 .f32) (main_arg8 : FVec F S8x1024x256 .bf16) (main_v16 : IVec S_ 1) : IVec S_ 1 :=
  let main_v17 : FVec F S32768x256 .f32 := (extf .f32 · bitsLt_bf16_f32) main_arg3
  let main_v18 : FVec F S32768x256 .f32 := Host.absf main_v17
  let main_cst_5 : FVec F S_ .f32 := constant S_ .f32 0x7F800000#32
  let main_v19 : FVec F S32768x256 .f32 := broadcastInDim S32768x256 ![] bcast_S_S32768x256 main_cst_5
  let main_v20 : IVec S32768x256 1 := cmpf .olt main_v18 main_v19
  let main_c_6 : IVec S_ 1 := constantI S_ 1 1#1
  let main_v21 : IVec S_ 1 := (fun x v => Host.reduce IntOp.andi x v reducesTo_S32768x256_S_d0_1 h_S_) main_v20 main_c_6
  let main_v22 : IVec S_ 1 := andi main_v16 main_v21
  let main_v23 : FVec F S1024x1024 .f32 := Host.absf main_arg4
  let main_cst_7 : FVec F S_ .f32 := constant S_ .f32 0x7F800000#32
  let main_v24 : FVec F S1024x1024 .f32 := broadcastInDim S1024x1024 ![] bcast_S_S1024x1024 main_cst_7
  let main_v25 : IVec S1024x1024 1 := cmpf .olt main_v23 main_v24
  let main_c_8 : IVec S_ 1 := constantI S_ 1 1#1
  let main_v26 : IVec S_ 1 := (fun x v => Host.reduce IntOp.andi x v reducesTo_S1024x1024_S_d0_1 h_S_) main_v25 main_c_8
  let main_v27 : IVec S_ 1 := andi main_v22 main_v26
  let main_v28 : FVec F S1024 .f32 := Host.absf main_arg5
  let main_cst_9 : FVec F S_ .f32 := constant S_ .f32 0x7F800000#32
  let main_v29 : FVec F S1024 .f32 := broadcastInDim S1024 ![] bcast_S_S1024 main_cst_9
  let main_v30 : IVec S1024 1 := cmpf .olt main_v28 main_v29
  let main_c_10 : IVec S_ 1 := constantI S_ 1 1#1
  let main_v31 : IVec S_ 1 := (fun x v => Host.reduce IntOp.andi x v reducesTo_S1024_S_d0 h_S_) main_v30 main_c_10
  let main_v32 : IVec S_ 1 := andi main_v27 main_v31
  let main_v33 : FVec F S1024 .f32 := Host.absf main_arg6
  let main_cst_11 : FVec F S_ .f32 := constant S_ .f32 0x7F800000#32
  fn_part2 (F := F) main_arg7 main_arg8 main_v32 main_v33 main_cst_11

def fn {F : FTy → Type} [FloatOps F] (main_arg0 : FVec F S32768x1024 .f32) (main_arg1 : FVec F S32768x512 .bf16) (main_arg2 : FVec F S32768x512 .bf16) (main_arg3 : FVec F S32768x256 .bf16) (main_arg4 : FVec F S1024x1024 .f32) (main_arg5 : FVec F S1024 .f32) (main_arg6 : FVec F S1024 .f32) (main_arg7 : FVec F S1024x1024 .f32) (main_arg8 : FVec F S8x1024x256 .bf16) (main_arg9 : FVec F S8x256x1024 .bf16) (main_arg10 : FVec F S1024x1024 .f32) (main_arg11 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_c_0 : IVec S_ 1 := constantI S_ 1 1#1
  let main_v4 : IVec S_ 1 := andi main_c_0 main_v3
  let main_v5 : FVec F S32768x512 .f32 := (extf .f32 · bitsLt_bf16_f32) main_arg1
  let main_v6 : FVec F S32768x512 .f32 := Host.absf main_v5
  let main_cst_1 : FVec F S_ .f32 := constant S_ .f32 0x7F800000#32
  let main_v7 : FVec F S32768x512 .f32 := broadcastInDim S32768x512 ![] bcast_S_S32768x512 main_cst_1
  let main_v8 : IVec S32768x512 1 := cmpf .olt main_v6 main_v7
  let main_c_2 : IVec S_ 1 := constantI S_ 1 1#1
  let main_v9 : IVec S_ 1 := (fun x v => Host.reduce IntOp.andi x v reducesTo_S32768x512_S_d0_1 h_S_) main_v8 main_c_2
  let main_v10 : IVec S_ 1 := andi main_v4 main_v9
  let main_v11 : FVec F S32768x512 .f32 := (extf .f32 · bitsLt_bf16_f32) main_arg2
  let main_v12 : FVec F S32768x512 .f32 := Host.absf main_v11
  let main_cst_3 : FVec F S_ .f32 := constant S_ .f32 0x7F800000#32
  let main_v13 : FVec F S32768x512 .f32 := broadcastInDim S32768x512 ![] bcast_S_S32768x512 main_cst_3
  let main_v14 : IVec S32768x512 1 := cmpf .olt main_v12 main_v13
  let main_c_4 : IVec S_ 1 := constantI S_ 1 1#1
  let main_v15 : IVec S_ 1 := (fun x v => Host.reduce IntOp.andi x v reducesTo_S32768x512_S_d0_1 h_S_) main_v14 main_c_4
  let main_v16 : IVec S_ 1 := andi main_v10 main_v15
  fn_part1 (F := F) main_arg3 main_arg4 main_arg5 main_arg6 main_arg7 main_arg8 main_v16
-- ==== Attn.lean ====
abbrev S8x8x512x512 : Shape := ⟨4, ![8, 8, 512, 512]⟩
abbrev S32768x512 : Shape := ⟨2, ![32768, 512]⟩
abbrev S8x8x320x512 : Shape := ⟨4, ![8, 8, 320, 512]⟩
abbrev S8x4096x512 : Shape := ⟨3, ![8, 4096, 512]⟩
abbrev S1x1x512x512 : Shape := ⟨4, ![1, 1, 512, 512]⟩
abbrev S1x4096x512 : Shape := ⟨3, ![1, 4096, 512]⟩
abbrev S1x8x320x512 : Shape := ⟨4, ![1, 8, 320, 512]⟩
abbrev S512x512 : Shape := ⟨2, ![512, 512]⟩
abbrev S1x1x128x512 : Shape := ⟨4, ![1, 1, 128, 512]⟩
abbrev S128x512 : Shape := ⟨2, ![128, 512]⟩
abbrev S1x512 : Shape := ⟨2, ![1, 512]⟩
abbrev S80x512 : Shape := ⟨2, ![80, 512]⟩
abbrev S1x512x512 : Shape := ⟨3, ![1, 512, 512]⟩
abbrev S512x128 : Shape := ⟨2, ![512, 128]⟩
abbrev S512 : Shape := ⟨1, ![512]⟩
abbrev S1x1x80x512 : Shape := ⟨4, ![1, 1, 80, 512]⟩
abbrev S48x512 : Shape := ⟨2, ![48, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x8x512x512, .bf16⟩
  | .hbm, ⟨1, _⟩ => ⟨S32768x512, .bf16⟩
  | .hbm, ⟨2, _⟩ => ⟨S8x8x320x512, .bf16⟩
  | .hbm, ⟨3, _⟩ => ⟨S8x4096x512, .bf16⟩
  | .hbm, ⟨4, _⟩ => ⟨S32768x512, .bf16⟩
  | .local _ .vmem, ⟨0, _⟩ => ⟨S1x1x512x512, .bf16⟩
  | .local _ .vmem, ⟨1, _⟩ => ⟨S1x1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x8x320x512, .bf16⟩
  | .local _ .vmem, ⟨5, _⟩ => ⟨S1x8x320x512, .bf16⟩
  | .local _ .vmem, ⟨6, _⟩ => ⟨S512x512, .bf16⟩
  | .local _ .vmem, ⟨7, _⟩ => ⟨S512x512, .bf16⟩
  | _, _ => ⟨S8x8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let c1_i32_20 : BitVec 32 := 1#32
  ⟨c0_i32, v21, c1_i32_20⟩
def k0_mult1 (i : grid0.Coords) (k0_t1 : Fin (k0_t1_loop i).trips) : BitVec 32 :=
  let c0_i32 : BitVec 32 := 0#32
  let c1_i32_20 : BitVec 32 := 1#32
  let arg6 : BitVec 32 := Scf.iv c0_i32 c1_i32_20 k0_t1
  let c512_i32_71 : BitVec 32 := 512#32
  let v191 : BitVec 32 := Scalar.muli arg6 c512_i32_71
  v191
def k0_off1 (i : grid0.Coords) (k0_t1 : Fin (k0_t1_loop i).trips) : Fin 3 → Nat :=
  let c0_72 : Index := 0#32
  let c0_i32 : BitVec 32 := 0#32
  let c1_i32_20 : BitVec 32 := 1#32
  let arg6 : BitVec 32 := Scf.iv c0_i32 c1_i32_20 k0_t1
  let c512_i32_71 : BitVec 32 := 512#32
  let v191 : BitVec 32 := Scalar.muli arg6 c512_i32_71
  let v192 : BitVec 32 := v191
  let v193 : Index := Scalar.indexCast v192
  let c0_73 : Index := 0#32
  ![0, v193.toNat, 0]
def k0_off2 (i : grid0.Coords) (k0_t1 : Fin (k0_t1_loop i).trips) : Fin 4 → Nat :=
  let c0_82 : Index := 0#32
  let c0_i32 : BitVec 32 := 0#32
  let c1_i32_20 : BitVec 32 := 1#32
  let arg6 : BitVec 32 := Scf.iv c0_i32 c1_i32_20 k0_t1
  let v232 : Index := Scalar.indexCast arg6
  let c0_83 : Index := 0#32
  let c0_84 : Index := 0#32
  ![0, v232.toNat, 0, 0]
def k0_off3 (i : grid0.Coords) (k0_t1 : Fin (k0_t1_loop i).trips) : Fin 4 → Nat :=
  let c0_86 : Index := 0#32
  let c0_i32 : BitVec 32 := 0#32
  let c1_i32_20 : BitVec 32 := 1#32
  let arg6 : BitVec 32 := Scf.iv c0_i32 c1_i32_20 k0_t1
  let v236 : Index := Scalar.indexCast arg6
  let c80_87 : Index := 80#32
  let c0_88 : Index := 0#32
  ![0, v236.toNat, 80, 0]
def k0_off4 (i : grid0.Coords) (k0_t1 : Fin (k0_t1_loop i).trips) : Fin 4 → Nat :=
  let c0_90 : Index := 0#32
  let c0_i32 : BitVec 32 := 0#32
  let c1_i32_20 : BitVec 32 := 1#32
  let arg6 : BitVec 32 := Scf.iv c0_i32 c1_i32_20 k0_t1
  let v240 : Index := Scalar.indexCast arg6
  let c160_91 : Index := 160#32
  let c0_92 : Index := 0#32
  ![0, v240.toNat, 160, 0]
def k0_off5 (i : grid0.Coords) (k0_t1 : Fin (k0_t1_loop i).trips) : Fin 4 → Nat :=
  let c0_94 : Index := 0#32
  let c0_i32 : BitVec 32 := 0#32
  let c1_i32_20 : BitVec 32 := 1#32
  let arg6 : BitVec 32 := Scf.iv c0_i32 c1_i32_20 k0_t1
  let v244 : Index := Scalar.indexCast arg6
  let c240_95 : Index := 240#32
  let c0_96 : Index := 0#32
  ![0, v244.toNat, 240, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let v18 : BitVec 32 := Scalar.addi c0_i32 v17
  let c1_i32_21 : BitVec 32 := 1#32
  ⟨v21, v18, c1_i32_21⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let c1_i32_21 : BitVec 32 := 1#32
  let arg6 : BitVec 32 := Scf.iv v21 c1_i32_21 k0_t2
  let c512_i32_71 : BitVec 32 := 512#32
  let v191 : BitVec 32 := Scalar.muli arg6 c512_i32_71
  v191
def k0_off6 (i : grid0.Coords) (k0_t2 : Fin (k0_t2_loop i).trips) : Fin 3 → Nat :=
  let c0_72 : Index := 0#32
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let c1_i32_21 : BitVec 32 := 1#32
  let arg6 : BitVec 32 := Scf.iv v21 c1_i32_21 k0_t2
  let c512_i32_71 : BitVec 32 := 512#32
  let v191 : BitVec 32 := Scalar.muli arg6 c512_i32_71
  let v192 : BitVec 32 := v191
  let v193 : Index := Scalar.indexCast v192
  let c0_73 : Index := 0#32
  ![0, v193.toNat, 0]
def k0_off7 (i : grid0.Coords) (k0_t2 : Fin (k0_t2_loop i).trips) : Fin 4 → Nat :=
  let c0_82 : Index := 0#32
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let c1_i32_21 : BitVec 32 := 1#32
  let arg6 : BitVec 32 := Scf.iv v21 c1_i32_21 k0_t2
  let v232 : Index := Scalar.indexCast arg6
  let c0_83 : Index := 0#32
  let c0_84 : Index := 0#32
  ![0, v232.toNat, 0, 0]
def k0_off8 (i : grid0.Coords) (k0_t2 : Fin (k0_t2_loop i).trips) : Fin 4 → Nat :=
  let c0_86 : Index := 0#32
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let c1_i32_21 : BitVec 32 := 1#32
  let arg6 : BitVec 32 := Scf.iv v21 c1_i32_21 k0_t2
  let v236 : Index := Scalar.indexCast arg6
  let c80_87 : Index := 80#32
  let c0_88 : Index := 0#32
  ![0, v236.toNat, 80, 0]
def k0_off9 (i : grid0.Coords) (k0_t2 : Fin (k0_t2_loop i).trips) : Fin 4 → Nat :=
  let c0_90 : Index := 0#32
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let c1_i32_21 : BitVec 32 := 1#32
  let arg6 : BitVec 32 := Scf.iv v21 c1_i32_21 k0_t2
  let v240 : Index := Scalar.indexCast arg6
  let c160_91 : Index := 160#32
  let c0_92 : Index := 0#32
  ![0, v240.toNat, 160, 0]
def k0_off10 (i : grid0.Coords) (k0_t2 : Fin (k0_t2_loop i).trips) : Fin 4 → Nat :=
  let c0_94 : Index := 0#32
  let c0_i32 : BitVec 32 := 0#32
  let arg1 : BitVec 32 := BitVec.ofNat 32 (i 1).val
  let c1_i32 : BitVec 32 := 1#32
  let v16 : BitVec 32 := Scalar.muli arg1 c1_i32
  let v17 : BitVec 32 := Scalar.subi v16 c0_i32
  let c1_i32_19 : BitVec 32 := 1#32
  let v19 : BitVec 32 := Scalar.divsi v17 c1_i32_19
  let v20 : BitVec 32 := Scalar.muli v19 c1_i32_19
  let v21 : BitVec 32 := Scalar.addi c0_i32 v20
  let c1_i32_21 : BitVec 32 := 1#32
  let arg6 : BitVec 32 := Scf.iv v21 c1_i32_21 k0_t2
  let v244 : Index := Scalar.indexCast arg6
  let c240_95 : Index := 240#32
  let c0_96 : Index := 0#32
  ![0, v244.toNat, 240, 0]
def k0_mult3 (i : grid0.Coords) : BitVec 32 :=
  let arg1 : BitVec 32 := BitVec.ofNat 32 (i 1).val
  let c1_i32_22 : BitVec 32 := 1#32
  let v24 : BitVec 32 := Scalar.muli arg1 c1_i32_22
  let c0_i32_23 : BitVec 32 := 0#32
  let v25 : BitVec 32 := Scalar.addi v24 c0_i32_23
  let c512_i32 : BitVec 32 := 512#32
  let v26 : BitVec 32 := Scalar.muli v25 c512_i32
  v26
def k0_off11 (i : grid0.Coords) : Fin 3 → Nat :=
  let c0_24 : Index := 0#32
  let arg1 : BitVec 32 := BitVec.ofNat 32 (i 1).val
  let c1_i32_22 : BitVec 32 := 1#32
  let v24 : BitVec 32 := Scalar.muli arg1 c1_i32_22
  let c0_i32_23 : BitVec 32 := 0#32
  let v25 : BitVec 32 := Scalar.addi v24 c0_i32_23
  let c512_i32 : BitVec 32 := 512#32
  let v26 : BitVec 32 := Scalar.muli v25 c512_i32
  let v27 : BitVec 32 := v26
  let v28 : Index := Scalar.indexCast v27
  let c0_25 : Index := 0#32
  ![0, v28.toNat, 0]
def k0_off12 (i : grid0.Coords) : Fin 4 → Nat :=
  let c0_52 : Index := 0#32
  let arg1 : BitVec 32 := BitVec.ofNat 32 (i 1).val
  let c1_i32_22 : BitVec 32 := 1#32
  let v24 : BitVec 32 := Scalar.muli arg1 c1_i32_22
  let c0_i32_23 : BitVec 32 := 0#32
  let v25 : BitVec 32 := Scalar.addi v24 c0_i32_23
  let v128 : Index := Scalar.indexCast v25
  let c0_53 : Index := 0#32
  let c0_54 : Index := 0#32
  ![0, v128.toNat, 0, 0]
def k0_off13 (i : grid0.Coords) : Fin 4 → Nat :=
  let c0_56 : Index := 0#32
  let arg1 : BitVec 32 := BitVec.ofNat 32 (i 1).val
  let c1_i32_22 : BitVec 32 := 1#32
  let v24 : BitVec 32 := Scalar.muli arg1 c1_i32_22
  let c0_i32_23 : BitVec 32 := 0#32
  let v25 : BitVec 32 := Scalar.addi v24 c0_i32_23
  let v132 : Index := Scalar.indexCast v25
  let c80 : Index := 80#32
  let c0_57 : Index := 0#32
  ![0, v132.toNat, 80, 0]
def k0_off14 (i : grid0.Coords) : Fin 4 → Nat :=
  let c0_59 : Index := 0#32
  let arg1 : BitVec 32 := BitVec.ofNat 32 (i 1).val
  let c1_i32_22 : BitVec 32 := 1#32
  let v24 : BitVec 32 := Scalar.muli arg1 c1_i32_22
  let c0_i32_23 : BitVec 32 := 0#32
  let v25 : BitVec 32 := Scalar.addi v24 c0_i32_23
  let v136 : Index := Scalar.indexCast v25
  let c160 : Index := 160#32
  let c0_60 : Index := 0#32
  ![0, v136.toNat, 160, 0]
def k0_off15 (i : grid0.Coords) : Fin 4 → Nat :=
  let c0_62 : Index := 0#32
  let arg1 : BitVec 32 := BitVec.ofNat 32 (i 1).val
  let c1_i32_22 : BitVec 32 := 1#32
  let v24 : BitVec 32 := Scalar.muli arg1 c1_i32_22
  let c0_i32_23 : BitVec 32 := 0#32
  let v25 : BitVec 32 := Scalar.addi v24 c0_i32_23
  let v140 : Index := Scalar.indexCast v25
  let c240 : Index := 240#32
  let c0_63 : Index := 0#32
  ![0, v140.toNat, 240, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x8x512x512 : Shape := ⟨4, ![8, 8, 512, 512]⟩
abbrev S32768x512 : Shape := ⟨2, ![32768, 512]⟩
abbrev S8x8x320x512 : Shape := ⟨4, ![8, 8, 320, 512]⟩
abbrev S8x8x4x128x512 : Shape := ⟨5, ![8, 8, 4, 128, 512]⟩
abbrev S8x4x8x512x128 : Shape := ⟨5, ![8, 4, 8, 512, 128]⟩
abbrev S8x4x4096x128 : Shape := ⟨4, ![8, 4, 4096, 128]⟩
abbrev S8x4096x4x128 : Shape := ⟨4, ![8, 4096, 4, 128]⟩
abbrev S8x8x4x80x512 : Shape := ⟨5, ![8, 8, 4, 80, 512]⟩
abbrev S8x4x8x512x80 : Shape := ⟨5, ![8, 4, 8, 512, 80]⟩
abbrev S8x4x4096x80 : Shape := ⟨4, ![8, 4, 4096, 80]⟩
abbrev S8x4x4096x4096 : Shape := ⟨4, ![8, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x4096 : Shape := ⟨3, ![8, 4, 4096]⟩
abbrev S8x4x4096x1 : Shape := ⟨4, ![8, 4, 4096, 1]⟩
abbrev S8x4x80x4096 : Shape := ⟨4, ![8, 4, 80, 4096]⟩
abbrev S8x4096x4x80 : Shape := ⟨4, ![8, 4096, 4, 80]⟩

abbrev nBuf : Space → Nat
  | .hbm => 68
  | .vmem => 0
  | .smem => 0
  | _ => 0

abbrev bufTy : (tb : Table) → Fin (tcTables nBuf tb) → BufTy
  | .hbm, ⟨0, _⟩ => ⟨S8x8x512x512, .bf16⟩
  | .hbm, ⟨1, _⟩ => ⟨S32768x512, .bf16⟩
  | .hbm, ⟨2, _⟩ => ⟨S8x8x320x512, .bf16⟩
  | .hbm, ⟨3, _⟩ => ⟨S8x8x512x512, .f32⟩
  | .hbm, ⟨4, _⟩ => ⟨S8x8x4x128x512, .f32⟩
  | .hbm, ⟨5, _⟩ => ⟨S8x4x8x512x128, .f32⟩
  | .hbm, ⟨6, _⟩ => ⟨S8x4x4096x128, .f32⟩
  | .hbm, ⟨7, _⟩ => ⟨S32768x512, .f32⟩
  | .hbm, ⟨8, _⟩ => ⟨S8x4096x4x128, .f32⟩
  | .hbm, ⟨9, _⟩ => ⟨S8x8x320x512, .f32⟩
  | .hbm, ⟨10, _⟩ => ⟨S8x8x4x80x512, .f32⟩
  | .hbm, ⟨11, _⟩ => ⟨S8x4x8x512x80, .f32⟩
  | .hbm, ⟨12, _⟩ => ⟨S8x4x4096x80, .f32⟩
  | .hbm, ⟨13, _⟩ => ⟨S8x4x4096x4096, .f32⟩
  | .hbm, ⟨14, _⟩ => ⟨S_, .f32⟩
  | .hbm, ⟨15, _⟩ => ⟨S_, .f32⟩
  | .hbm, ⟨16, _⟩ => ⟨S8x4x4096x4096, .f32⟩
  | .hbm, ⟨17, _⟩ => ⟨S8x4x4096x4096, .f32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S1x4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S8x4x4096x4096, .i1⟩
  | .hbm, ⟨45, _⟩ => ⟨S8x4x4096x4096, .f32⟩
  | .hbm, ⟨46, _⟩ => ⟨S8x4x4096x4096, .f32⟩
  | .hbm, ⟨47, _⟩ => ⟨S_, .f32⟩
  | .hbm, ⟨48, _⟩ => ⟨S8x4x4096, .f32⟩
  | .hbm, ⟨49, _⟩ => ⟨S_, .f32⟩
  | .hbm, ⟨50, _⟩ => ⟨S8x4x4096, .f32⟩
  | .hbm, ⟨51, _⟩ => ⟨S8x4x4096, .f32⟩
  | .hbm, ⟨52, _⟩ => ⟨S8x4x4096x1, .f32⟩
  | .hbm, ⟨53, _⟩ => ⟨S8x4x4096x4096, .f32⟩
  | .hbm, ⟨54, _⟩ => ⟨S8x4x4096x4096, .f32⟩
  | .hbm, ⟨55, _⟩ => ⟨S8x4x4096x4096, .f32⟩
  | .hbm, ⟨56, _⟩ => ⟨S_, .f32⟩
  | .hbm, ⟨57, _⟩ => ⟨S8x4x4096, .f32⟩
  | .hbm, ⟨58, _⟩ => ⟨S8x4x4096x1, .f32⟩
  | .hbm, ⟨59, _⟩ => ⟨S8x4x4096x4096, .f32⟩
  | .hbm, ⟨60, _⟩ => ⟨S8x4x4096x4096, .f32⟩
  | .hbm, ⟨61, _⟩ => ⟨S8x4x80x4096, .f32⟩
  | .hbm, ⟨62, _⟩ => ⟨S8x4096x4x80, .f32⟩
  | .hbm, ⟨63, _⟩ => ⟨S_, .i32⟩
  | .hbm, ⟨64, _⟩ => ⟨S_, .f32⟩
  | .hbm, ⟨65, _⟩ => ⟨S8x4096x4x128, .f32⟩
  | .hbm, ⟨66, _⟩ => ⟨S32768x512, .f32⟩
  | .hbm, ⟨67, _⟩ => ⟨S32768x512, .bf16⟩
  | _, _ => ⟨S8x8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_4 : Ref sig .tc := ⟨.hbm, 63, rfl⟩
abbrev main_call2_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Inproj.lean ====
abbrev S32768x1024 : Shape := ⟨2, ![32768, 1024]⟩
abbrev S8x4096 : Shape := ⟨2, ![8, 4096]⟩
abbrev S1024 : Shape := ⟨1, ![1024]⟩
abbrev S1024x2736 : Shape := ⟨2, ![1024, 2736]⟩
abbrev S256 : Shape := ⟨1, ![256]⟩
abbrev S256x384 : Shape := ⟨2, ![256, 384]⟩
abbrev S128 : Shape := ⟨1, ![128]⟩
abbrev S128x512 : Shape := ⟨2, ![128, 512]⟩
abbrev S3072 : Shape := ⟨1, ![3072]⟩
abbrev S1x512 : Shape := ⟨2, ![1, 512]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S32768x64 : Shape := ⟨2, ![32768, 64]⟩
abbrev S32768x32 : Shape := ⟨2, ![32768, 32]⟩
abbrev S32768x128 : Shape := ⟨2, ![32768, 128]⟩
abbrev S1x1024 : Shape := ⟨2, ![1, 1024]⟩
abbrev S3072x1 : Shape := ⟨2, ![3072, 1]⟩
abbrev S1 : Shape := ⟨1, ![1]⟩
abbrev S1x1 : Shape := ⟨2, ![1, 1]⟩
abbrev S1024x3072 : Shape := ⟨2, ![1024, 3072]⟩
abbrev S1x256 : Shape := ⟨2, ![1, 256]⟩
abbrev S1x128 : Shape := ⟨2, ![1, 128]⟩
abbrev S1024x1 : Shape := ⟨2, ![1024, 1]⟩
abbrev S256x1024 : Shape := ⟨2, ![256, 1024]⟩
abbrev S128x1024 : Shape := ⟨2, ![128, 1024]⟩
abbrev S32768x1280 : Shape := ⟨2, ![32768, 1280]⟩
abbrev S8x8x512x512 : Shape := ⟨4, ![8, 8, 512, 512]⟩
abbrev S32768x512 : Shape := ⟨2, ![32768, 512]⟩
abbrev S8x8x320x512 : Shape := ⟨4, ![8, 8, 320, 512]⟩
abbrev S512x1024 : Shape := ⟨2, ![512, 1024]⟩
abbrev S512x128 : Shape := ⟨2, ![512, 128]⟩
abbrev S512x1280 : Shape := ⟨2, ![512, 1280]⟩
abbrev S1x1x512x512 : Shape := ⟨4, ![1, 1, 512, 512]⟩
abbrev S512x512 : Shape := ⟨2, ![512, 512]⟩
abbrev S1x1x320x512 : Shape := ⟨4, ![1, 1, 320, 512]⟩
abbrev S512 : Shape := ⟨1, ![512]⟩
abbrev S512x1 : Shape := ⟨2, ![512, 1]⟩
abbrev S512x3072 : Shape := ⟨2, ![512, 3072]⟩
abbrev S512x640 : Shape := ⟨2, ![512, 640]⟩
abbrev S512x256 : Shape := ⟨2, ![512, 256]⟩
abbrev S80x512 : Shape := ⟨2, ![80, 512]⟩
abbrev S320x512 : Shape := ⟨2, ![320, 512]⟩

abbrev nBuf : Space → Nat
  | .hbm => 144
  | .vmem => 25
  | .smem => 0
  | _ => 0

abbrev hbmTy0_0 (i : Nat) : BufTy := match i % 128 with
  | 0 => ⟨S32768x1024, .f32⟩
  | 1 => ⟨S8x4096, .i32⟩
  | 2 => ⟨S1024, .f32⟩
  | 3 => ⟨S1024x2736, .f32⟩
  | 4 => ⟨S256, .f32⟩
  | 5 => ⟨S256x384, .f32⟩
  | 6 => ⟨S128, .f32⟩
  | 7 => ⟨S128x512, .f32⟩
  | 8 => ⟨S3072, .i1⟩
  | 9 => ⟨S3072, .i32⟩
  | 10 => ⟨S1024, .i1⟩
  | 11 => ⟨S1024, .i32⟩
  | 12 => ⟨S1024, .i1⟩
  | 13 => ⟨S1024, .i32⟩
  | 14 => ⟨S1x512, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S8x4096, .f32⟩
  | 32 => ⟨S32768x1, .f32⟩
  | 33 => ⟨S1x16, .f32⟩
  | 34 => ⟨S32768x16, .f32⟩
  | 35 => ⟨S32768x16, .f32⟩
  | 36 => ⟨S32768x16, .f32⟩
  | 37 => ⟨S32768x16, .f32⟩
  | 38 => ⟨S32768x16, .f32⟩
  | 39 => ⟨S_, .f32⟩
  | 40 => ⟨S32768x64, .f32⟩
  | 41 => ⟨S_, .f32⟩
  | 42 => ⟨S32768x64, .f32⟩
  | 43 => ⟨S_, .f32⟩
  | 44 => ⟨S32768x32, .f32⟩
  | 45 => ⟨S32768x128, .f32⟩
  | 46 => ⟨S32768x16, .f32⟩
  | 47 => ⟨S32768x128, .f32⟩
  | 48 => ⟨S1x1024, .f32⟩
  | 49 => ⟨S_, .i32⟩
  | 50 => ⟨S3072, .i32⟩
  | 51 => ⟨S3072, .i1⟩
  | 52 => ⟨S_, .i32⟩
  | 53 => ⟨S3072, .i32⟩
  | 54 => ⟨S3072, .i32⟩
  | 55 => ⟨S3072, .i32⟩
  | 56 => ⟨S3072x1, .i32⟩
  | 57 => ⟨S1, .i32⟩
  | 58 => ⟨S_, .i32⟩
  | 59 => ⟨S3072x1, .i32⟩
  | 60 => ⟨S3072x1, .i1⟩
  | 61 => ⟨S1x1, .i32⟩
  | 62 => ⟨S3072x1, .i32⟩
  | 63 => ⟨S3072x1, .i1⟩
  | 64 => ⟨S3072x1, .i1⟩
  | 65 => ⟨S_, .i1⟩
  | 66 => ⟨S3072, .i1⟩
  | 67 => ⟨S1024x3072, .f32⟩
  | 68 => ⟨S1024x3072, .i1⟩
  | 69 => ⟨S_, .f32⟩
  | 70 => ⟨S1024x3072, .f32⟩
  | 71 => ⟨S1024x3072, .f32⟩
  | 72 => ⟨S_, .f32⟩
  | 73 => ⟨S_, .f32⟩
  | 74 => ⟨S1024x3072, .i1⟩
  | 75 => ⟨S1024x3072, .f32⟩
  | 76 => ⟨S1024x3072, .f32⟩
  | 77 => ⟨S1024x3072, .bf16⟩
  | 78 => ⟨S1x256, .f32⟩
  | 79 => ⟨S1x128, .f32⟩
  | 80 => ⟨S_, .i32⟩
  | 81 => ⟨S1024, .i32⟩
  | 82 => ⟨S1024, .i1⟩
  | 83 => ⟨S_, .i32⟩
  | 84 => ⟨S1024, .i32⟩
  | 85 => ⟨S1024, .i32⟩
  | 86 => ⟨S1024, .i32⟩
  | 87 => ⟨S1024x1, .i32⟩
  | 88 => ⟨S1, .i32⟩
  | 89 => ⟨S_, .i32⟩
  | 90 => ⟨S1024x1, .i32⟩
  | 91 => ⟨S1024x1, .i1⟩
  | 92 => ⟨S1x1, .i32⟩
  | 93 => ⟨S1024x1, .i32⟩
  | 94 => ⟨S1024x1, .i1⟩
  | 95 => ⟨S1024x1, .i1⟩
  | 96 => ⟨S_, .i1⟩
  | 97 => ⟨S1024, .i1⟩
  | 98 => ⟨S256x1024, .f32⟩
  | 99 => ⟨S256x1024, .i1⟩
  | 100 => ⟨S_, .f32⟩
  | 101 => ⟨S256x1024, .f32⟩
  | 102 => ⟨S256x1024, .f32⟩
  | 103 => ⟨S_, .f32⟩
  | 104 => ⟨S_, .f32⟩
  | 105 => ⟨S256x1024, .i1⟩
  | 106 => ⟨S256x1024, .f32⟩
  | 107 => ⟨S256x1024, .f32⟩
  | 108 => ⟨S256x1024, .bf16⟩
  | 109 => ⟨S_, .i32⟩
  | 110 => ⟨S1024, .i32⟩
  | 111 => ⟨S1024, .i1⟩
  | 112 => ⟨S_, .i32⟩
  | 113 => ⟨S1024, .i32⟩
  | 114 => ⟨S1024, .i32⟩
  | 115 => ⟨S1024, .i32⟩
  | 116 => ⟨S1024x1, .i32⟩
  | 117 => ⟨S1, .i32⟩
  | 118 => ⟨S_, .i32⟩
  | 119 => ⟨S1024x1, .i32⟩
  | 120 => ⟨S1024x1, .i1⟩
  | 121 => ⟨S1x1, .i32⟩
  | 122 => ⟨S1024x1, .i32⟩
  | 123 => ⟨S1024x1, .i1⟩
  | 124 => ⟨S1024x1, .i1⟩
  | 125 => ⟨S_, .i1⟩
  | 126 => ⟨S1024, .i1⟩
  | 127 => ⟨S128x1024, .f32⟩
  | _ => ⟨S32768x1024, .f32⟩

abbrev hbmTy0_1 (i : Nat) : BufTy := match i % 128 with
  | 0 => ⟨S128x1024, .i1⟩
  | 1 => ⟨S_, .f32⟩
  | 2 => ⟨S128x1024, .f32⟩
  | 3 => ⟨S128x1024, .f32⟩
  | 4 => ⟨S_, .f32⟩
  | 5 => ⟨S_, .f32⟩
  | 6 => ⟨S128x1024, .i1⟩
  | 7 => ⟨S128x1024, .f32⟩
  | 8 => ⟨S128x1024, .f32⟩
  | 9 => ⟨S128x1024, .bf16⟩
  | 10 => ⟨S32768x1280, .f32⟩
  | 11 => ⟨S32768x1024, .f32⟩
  | 12 => ⟨S32768x128, .f32⟩
  | 13 => ⟨S8x8x512x512, .bf16⟩
  | 14 => ⟨S32768x512, .bf16⟩
  | 15 => ⟨S8x8x320x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x256, .f32⟩
  | .local _ .vmem, ⟨9, _⟩ => ⟨S1x128, .f32⟩
  | .local _ .vmem, ⟨10, _⟩ => ⟨S256x1024, .bf16⟩
  | .local _ .vmem, ⟨11, _⟩ => ⟨S128x1024, .bf16⟩
  | .local _ .vmem, ⟨12, _⟩ => ⟨S1x512, .f32⟩
  | .local _ .vmem, ⟨13, _⟩ => ⟨S512x1280, .f32⟩
  | .local _ .vmem, ⟨14, _⟩ => ⟨S512x1280, .f32⟩
  | .local _ .vmem, ⟨15, _⟩ => ⟨S512x1024, .f32⟩
  | .local _ .vmem, ⟨16, _⟩ => ⟨S512x1024, .f32⟩
  | .local _ .vmem, ⟨17, _⟩ => ⟨S512x128, .f32⟩
  | .local _ .vmem, ⟨18, _⟩ => ⟨S512x128, .f32⟩
  | .local _ .vmem, ⟨19, _⟩ => ⟨S1x1x512x512, .bf16⟩
  | .local _ .vmem, ⟨20, _⟩ => ⟨S1x1x512x512, .bf16⟩
  | .local _ .vmem, ⟨21, _⟩ => ⟨S512x512, .bf16⟩
  | .local _ .vmem, ⟨22, _⟩ => ⟨S512x512, .bf16⟩
  | .local _ .vmem, ⟨23, _⟩ => ⟨S1x1x320x512, .bf16⟩
  | .local _ .vmem, ⟨24, _⟩ => ⟨S1x1x320x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_cst : Ref sig .tc := ⟨.hbm, 14, rfl⟩
abbrev main_v0 : Ref sig .tc := ⟨.hbm, 15, rfl⟩
abbrev main_cst_5 : Ref sig .tc := ⟨.hbm, 16, rfl⟩
abbrev main_v1 : Ref sig .tc := ⟨.hbm, 17, rfl⟩
abbrev main_v2 : Ref sig .tc := ⟨.hbm, 18, rfl⟩
abbrev main_cst_6 : Ref sig .tc := ⟨.hbm, 19, rfl⟩
abbrev main_v3 : Ref sig .tc := ⟨.hbm, 20, rfl⟩
abbrev main_v4 : Ref sig .tc := ⟨.hbm, 21, rfl⟩
abbrev main_cst_7 : Ref sig .tc := ⟨.hbm, 22, rfl⟩
abbrev main_v5 : Ref sig .tc := ⟨.hbm, 23, rfl⟩
abbrev main_v6 : Ref sig .tc := ⟨.hbm, 24, rfl⟩
abbrev main_cst_8 : Ref sig .tc := ⟨.hbm, 25, rfl⟩
abbrev main_v7 : Ref sig .tc := ⟨.hbm, 26, rfl⟩
abbrev main_v8 : Ref sig .tc := ⟨.hbm, 27, rfl⟩
abbrev main_cst_9 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_10 : Ref sig .tc := ⟨.hbm, 39, rfl⟩
abbrev main_v19 : Ref sig .tc := ⟨.hbm, 40, rfl⟩
abbrev main_cst_11 : Ref sig .tc := ⟨.hbm, 41, rfl⟩
abbrev main_v20 : Ref sig .tc := ⟨.hbm, 42, rfl⟩
abbrev main_cst_12 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v26 : Ref sig .tc := ⟨.hbm, 71, rfl⟩
abbrev main_cst_13 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v31 : Ref sig .tc := ⟨.hbm, 102, rfl⟩
abbrev main_cst_14 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v32 : Ref sig .tc := ⟨.hbm, 107, rfl⟩
abbrev main_v33 : Ref sig .tc := ⟨.hbm, 108, rfl⟩
abbrev main_call4_c : Ref sig .tc := ⟨.hbm, 109, rfl⟩
abbrev main_call4_v0 : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_c_1 : Ref sig .tc := ⟨.hbm, 117, rfl⟩
abbrev main_call4_c_2 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_3 : Ref sig .tc := ⟨.hbm, 125, rfl⟩
abbrev main_call4_v12 : Ref sig .tc := ⟨.hbm, 126, rfl⟩
abbrev main_call4_v13 : Ref sig .tc := ⟨.hbm, 127, rfl⟩
abbrev main_call4_v14 : Ref sig .tc := ⟨.hbm, 128, rfl⟩
abbrev main_call4_cst : Ref sig .tc := ⟨.hbm, 129, rfl⟩
abbrev main_call4_v15 : Ref sig .tc := ⟨.hbm, 130, rfl⟩
abbrev main_v34 : Ref sig .tc := ⟨.hbm, 131, rfl⟩
abbrev main_cst_15 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_v35 : Ref sig .tc := ⟨.hbm, 136, rfl⟩
abbrev main_v36 : Ref sig .tc := ⟨.hbm, 137, rfl⟩
abbrev main_v37_0 : Ref sig .tc := ⟨.hbm, 138, rfl⟩
abbrev main_v37_1 : Ref sig .tc := ⟨.hbm, 139, rfl⟩
abbrev main_v37_2 : Ref sig .tc := ⟨.hbm, 140, rfl⟩
abbrev main_v37_3 : Ref sig .tc := ⟨.hbm, 141, rfl⟩
abbrev main_v37_4 : Ref sig .tc := ⟨.hbm, 142, rfl⟩
abbrev main_v37_5 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x320x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojIdeal.lean ====
variable {F : FTy → Type} [FloatOps F] [Named F]
def κ : String → Option EReal := fun
  | "qscale" => some (((Real.sqrt 96)⁻¹ * (Real.log 2)⁻¹ : ℝ) : EReal)
  | _ => none
-- ==== InprojRefIdeal.lean ====
abbrev S32768x1024 : Shape := ⟨2, ![32768, 1024]⟩
abbrev S8x4096 : Shape := ⟨2, ![8, 4096]⟩
abbrev S1024 : Shape := ⟨1, ![1024]⟩
abbrev S1024x2736 : Shape := ⟨2, ![1024, 2736]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2736 : Shape := ⟨2, ![32768, 2736]⟩
abbrev S32768x1280 : Shape := ⟨2, ![32768, 1280]⟩
abbrev S32768x8 : Shape := ⟨2, ![32768, 8]⟩
abbrev S32768x256 : Shape := ⟨2, ![32768, 256]⟩
abbrev S32768x128 : Shape := ⟨2, ![32768, 128]⟩
abbrev S32768x32 : Shape := ⟨2, ![32768, 32]⟩
abbrev S32768x4 : Shape := ⟨2, ![32768, 4]⟩
abbrev S32768x112 : Shape := ⟨2, ![32768, 112]⟩
abbrev S16 : Shape := ⟨1, ![16]⟩
abbrev S1x16 : Shape := ⟨2, ![1, 16]⟩
abbrev S32768x16 : Shape := ⟨2, ![32768, 16]⟩
abbrev S1x256 : Shape := ⟨2, ![1, 256]⟩
abbrev S32768x384 : Shape := ⟨2, ![32768, 384]⟩
abbrev S32768x4x96 : Shape := ⟨3, ![32768, 4, 96]⟩
abbrev S32768x4x64 : Shape := ⟨3, ![32768, 4, 64]⟩
abbrev S32768x4x32 : Shape := ⟨3, ![32768, 4, 32]⟩
abbrev S32768x1x16 : Shape := ⟨3, ![32768, 1, 16]⟩
abbrev S32768x4x16 : Shape := ⟨3, ![32768, 4, 16]⟩
abbrev S1x128 : Shape := ⟨2, ![1, 128]⟩
abbrev S32768x512 : Shape := ⟨2, ![32768, 512]⟩
abbrev S32768x4x128 : Shape := ⟨3, ![32768, 4, 128]⟩
abbrev S32768x1x32 : Shape := ⟨3, ![32768, 1, 32]⟩
abbrev S32768x4x1 : Shape := ⟨3, ![32768, 4, 1]⟩
abbrev S32768x4x15 : Shape := ⟨3, ![32768, 4, 15]⟩
abbrev S32768x4x80 : Shape := ⟨3, ![32768, 4, 80]⟩
abbrev S8x8x512x512 : Shape := ⟨4, ![8, 8, 512, 512]⟩
abbrev S8x8x512x320 : Shape := ⟨4, ![8, 8, 512, 320]⟩
abbrev S8x8x320x512 : Shape := ⟨4, ![8, 8, 320, 512]⟩

abbrev nBuf : Space → Nat
  | .hbm => 154
  | .vmem => 0
  | .smem => 0
  | _ => 0

abbrev hbmTy0_0 (i : Nat) : BufTy := match i % 128 with
  | 0 => ⟨S32768x1024, .f32⟩
  | 1 => ⟨S8x4096, .i32⟩
  | 2 => ⟨S1024, .f32⟩
  | 3 => ⟨S1024x2736, .f32⟩
  | 4 => ⟨S256, .f32⟩
  | 5 => ⟨S256x384, .f32⟩
  | 6 => ⟨S128, .f32⟩
  | 7 => ⟨S128x512, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x2736, .f32⟩
  | 25 => ⟨S32768x1280, .f32⟩
  | 26 => ⟨S32768x8, .f32⟩
  | 27 => ⟨S32768x256, .f32⟩
  | 28 => ⟨S32768x128, .f32⟩
  | 29 => ⟨S32768x32, .f32⟩
  | 30 => ⟨S32768x1024, .f32⟩
  | 31 => ⟨S32768x4, .f32⟩
  | 32 => ⟨S32768x4, .f32⟩
  | 33 => ⟨S_, .f32⟩
  | 34 => ⟨S32768x112, .f32⟩
  | 35 => ⟨S32768x128, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S8x4096, .f32⟩
  | 53 => ⟨S32768x1, .f32⟩
  | 54 => ⟨S1x16, .f32⟩
  | 55 => ⟨S32768x16, .f32⟩
  | 56 => ⟨S32768x16, .f32⟩
  | 57 => ⟨S32768x16, .f32⟩
  | 58 => ⟨S32768x16, .f32⟩
  | 59 => ⟨S32768x16, .f32⟩
  | 60 => ⟨S32768x256, .f32⟩
  | 61 => ⟨S_, .f32⟩
  | 62 => ⟨S32768, .f32⟩
  | 63 => ⟨S32768x1, .f32⟩
  | 64 => ⟨S_, .f32⟩
  | 65 => ⟨S32768x1, .f32⟩
  | 66 => ⟨S32768x1, .f32⟩
  | 67 => ⟨S_, .f32⟩
  | 68 => ⟨S32768x1, .f32⟩
  | 69 => ⟨S32768x1, .f32⟩
  | 70 => ⟨S32768x1, .f32⟩
  | 71 => ⟨S32768x256, .f32⟩
  | 72 => ⟨S32768x256, .f32⟩
  | 73 => ⟨S1x256, .f32⟩
  | 74 => ⟨S32768x256, .f32⟩
  | 75 => ⟨S32768x256, .f32⟩
  | 76 => ⟨S32768x384, .f32⟩
  | 77 => ⟨S32768x4x96, .f32⟩
  | 78 => ⟨S32768x4x64, .f32⟩
  | 79 => ⟨S32768x4x32, .f32⟩
  | 80 => ⟨S32768x1x16, .f32⟩
  | 81 => ⟨S32768x1x16, .f32⟩
  | 82 => ⟨S32768x4x16, .f32⟩
  | 83 => ⟨S32768x4x16, .f32⟩
  | 84 => ⟨S32768x4x16, .f32⟩
  | 85 => ⟨S32768x4x16, .f32⟩
  | 86 => ⟨S32768x4x16, .f32⟩
  | 87 => ⟨S32768x4x16, .f32⟩
  | 88 => ⟨S32768x4x16, .f32⟩
  | 89 => ⟨S32768x4x16, .f32⟩
  | 90 => ⟨S32768x4x16, .f32⟩
  | 91 => ⟨S32768x4x16, .f32⟩
  | 92 => ⟨S32768x4x16, .f32⟩
  | 93 => ⟨S32768x4x16, .f32⟩
  | 94 => ⟨S32768x4x32, .f32⟩
  | 95 => ⟨S32768x4x96, .f32⟩
  | 96 => ⟨S_, .f32⟩
  | 97 => ⟨S_, .f32⟩
  | 98 => ⟨S_, .f32⟩
  | 99 => ⟨S_, .f32⟩
  | 100 => ⟨S_, .f32⟩
  | 101 => ⟨S32768x4x96, .f32⟩
  | 102 => ⟨S32768x4x96, .f32⟩
  | 103 => ⟨S32768x16, .f32⟩
  | 104 => ⟨S32768x16, .f32⟩
  | 105 => ⟨S32768x16, .f32⟩
  | 106 => ⟨S32768x16, .f32⟩
  | 107 => ⟨S32768x16, .f32⟩
  | 108 => ⟨S32768x16, .f32⟩
  | 109 => ⟨S32768x16, .f32⟩
  | 110 => ⟨S32768x16, .f32⟩
  | 111 => ⟨S32768x32, .f32⟩
  | 112 => ⟨S32768x128, .f32⟩
  | 113 => ⟨S_, .f32⟩
  | 114 => ⟨S32768, .f32⟩
  | 115 => ⟨S32768x1, .f32⟩
  | 116 => ⟨S_, .f32⟩
  | 117 => ⟨S32768x1, .f32⟩
  | 118 => ⟨S32768x1, .f32⟩
  | 119 => ⟨S_, .f32⟩
  | 120 => ⟨S32768x1, .f32⟩
  | 121 => ⟨S32768x1, .f32⟩
  | 122 => ⟨S32768x1, .f32⟩
  | 123 => ⟨S32768x128, .f32⟩
  | 124 => ⟨S32768x128, .f32⟩
  | 125 => ⟨S1x128, .f32⟩
  | 126 => ⟨S32768x128, .f32⟩
  | 127 => ⟨S32768x128, .f32⟩
  | _ => ⟨S32768x1024, .f32⟩

abbrev hbmTy0_1 (i : Nat) : BufTy := match i % 128 with
  | 0 => ⟨S32768x512, .f32⟩
  | 1 => ⟨S32768x4x128, .f32⟩
  | 2 => ⟨S32768x4x64, .f32⟩
  | 3 => ⟨S32768x1x32, .f32⟩
  | 4 => ⟨S32768x4x32, .f32⟩
  | 5 => ⟨S32768x4x96, .f32⟩
  | 6 => ⟨S32768x4x64, .f32⟩
  | 7 => ⟨S_, .f32⟩
  | 8 => ⟨S32768x4x1, .f32⟩
  | 9 => ⟨S_, .f32⟩
  | 10 => ⟨S32768x4x15, .f32⟩
  | 11 => ⟨S32768x4x80, .f32⟩
  | 12 => ⟨S_, .i32⟩
  | 13 => ⟨S_, .f32⟩
  | 14 => ⟨S32768x4x128, .f32⟩
  | 15 => ⟨S8x8x512x512, .f32⟩
  | 16 => ⟨S8x8x512x512, .f32⟩
  | 17 => ⟨S_, .i32⟩
  | 18 => ⟨S_, .f32⟩
  | 19 => ⟨S32768x4x128, .f32⟩
  | 20 => ⟨S32768x512, .f32⟩
  | 21 => ⟨S8x8x512x320, .f32⟩
  | 22 => ⟨S8x8x320x512, .f32⟩
  | 23 => ⟨S8x8x512x512, .bf16⟩
  | 24 => ⟨S32768x512, .bf16⟩
  | 25 => ⟨S8x8x320x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_11 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_cst_14 : Ref sig .tc := ⟨.hbm, 116, rfl⟩
abbrev main_v93 : Ref sig .tc := ⟨.hbm, 117, rfl⟩
abbrev main_v94 : Ref sig .tc := ⟨.hbm, 118, rfl⟩
abbrev main_cst_15 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_16 : Ref sig .tc := ⟨.hbm, 135, rfl⟩
abbrev main_v110 : Ref sig .tc := ⟨.hbm, 136, rfl⟩
abbrev main_cst_17 : Ref sig .tc := ⟨.hbm, 137, rfl⟩
abbrev main_v111 : Ref sig .tc := ⟨.hbm, 138, rfl⟩
abbrev main_v112 : Ref sig .tc := ⟨.hbm, 139, rfl⟩
abbrev main_c : Ref sig .tc := ⟨.hbm, 140, rfl⟩
abbrev main_call0_v0 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_c_18 : Ref sig .tc := ⟨.hbm, 145, rfl⟩
abbrev main_call1_v0 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩

abbrev nD : Nat := 1
abbrev τ : Topo := Topo.v7x

variable {F : FTy → Type} [FloatOps F]
-- ==== Post.lean ====
abbrev S32768x1024 : Shape := ⟨2, ![32768, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S8x1024x256 : Shape := ⟨3, ![8, 1024, 256]⟩
abbrev S8x256x1024 : Shape := ⟨3, ![8, 256, 1024]⟩
abbrev S512 : Shape := ⟨1, ![512]⟩
abbrev S512x1024 : Shape := ⟨2, ![512, 1024]⟩
abbrev S_ : Shape := ⟨0, ![]⟩
abbrev S512x1 : Shape := ⟨2, ![512, 1]⟩
abbrev S1 : Shape := ⟨1, ![1]⟩
abbrev S1x1 : Shape := ⟨2, ![1, 1]⟩
abbrev S1024x512 : Shape := ⟨2, ![1024, 512]⟩
abbrev S256x1024 : Shape := ⟨2, ![256, 1024]⟩
abbrev S1x1024 : Shape := ⟨2, ![1, 1024]⟩
abbrev S512x512 : Shape := ⟨2, ![512, 512]⟩
abbrev S512x256 : Shape := ⟨2, ![512, 256]⟩
abbrev S1x1024x256 : Shape := ⟨3, ![1, 1024, 256]⟩
abbrev S1x256x1024 : Shape := ⟨3, ![1, 256, 1024]⟩
abbrev S1x256x256 : Shape := ⟨3, ![1, 256, 256]⟩
abbrev S256x256 : Shape := ⟨2, ![256, 256]⟩

abbrev nBuf : Space → Nat
  | .hbm => 55
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S8x1024x256, .bf16⟩
  | .hbm, ⟨9, _⟩ => ⟨S8x256x1024, .bf16⟩
  | .hbm, ⟨10, _⟩ => ⟨S1024x1024, .f32⟩
  | .hbm, ⟨11, _⟩ => ⟨S1024, .f32⟩
  | .hbm, ⟨12, _⟩ => ⟨S512, .i1⟩
  | .hbm, ⟨13, _⟩ => ⟨S512, .i32⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S1x1, .i32⟩
  | .hbm, ⟨30, _⟩ => ⟨S512x1, .i32⟩
  | .hbm, ⟨31, _⟩ => ⟨S512x1, .i1⟩
  | .hbm, ⟨32, _⟩ => ⟨S512x1, .i1⟩
  | .hbm, ⟨33, _⟩ => ⟨S_, .i1⟩
  | .hbm, ⟨34, _⟩ => ⟨S512, .i1⟩
  | .hbm, ⟨35, _⟩ => ⟨S1024x512, .f32⟩
  | .hbm, ⟨36, _⟩ => ⟨S1024x512, .i1⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S_, .f32⟩
  | .hbm, ⟨42, _⟩ => ⟨S1024x512, .i1⟩
  | .hbm, ⟨43, _⟩ => ⟨S1024x512, .f32⟩
  | .hbm, ⟨44, _⟩ => ⟨S1024x512, .f32⟩
  | .hbm, ⟨45, _⟩ => ⟨S512x1024, .f32⟩
  | .hbm, ⟨46, _⟩ => ⟨S512x1024, .bf16⟩
  | .hbm, ⟨47, _⟩ => ⟨S256x1024, .f32⟩
  | .hbm, ⟨48, _⟩ => ⟨S256x1024, .bf16⟩
  | .hbm, ⟨49, _⟩ => ⟨S1x1024, .f32⟩
  | .hbm, ⟨50, _⟩ => ⟨S1x1024, .f32⟩
  | .hbm, ⟨51, _⟩ => ⟨S1024x1024, .bf16⟩
  | .hbm, ⟨52, _⟩ => ⟨S1024x1024, .bf16⟩
  | .hbm, ⟨53, _⟩ => ⟨S1x1024, .f32⟩
  | .hbm, ⟨54, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S512x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x256x1024, .bf16⟩
  | .local _ .vmem, ⟨17, _⟩ => ⟨S1x256x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v3 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PostRefIdeal.lean ====
abbrev S32768x1024 : Shape := ⟨2, ![32768, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S8x1024x256 : Shape := ⟨3, ![8, 1024, 256]⟩
abbrev S8x256x1024 : Shape := ⟨3, ![8, 256, 1024]⟩
abbrev S32768x4x128 : Shape := ⟨3, ![32768, 4, 128]⟩
abbrev S32768x4x64 : Shape := ⟨3, ![32768, 4, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 99
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S8x1024x256, .bf16⟩
  | .hbm, ⟨9, _⟩ => ⟨S8x256x1024, .bf16⟩
  | .hbm, ⟨10, _⟩ => ⟨S1024x1024, .f32⟩
  | .hbm, ⟨11, _⟩ => ⟨S1024, .f32⟩
  | .hbm, ⟨12, _⟩ => ⟨S32768x512, .f32⟩
  | .hbm, ⟨13, _⟩ => ⟨S32768x512, .f32⟩
  | .hbm, ⟨14, _⟩ => ⟨S32768x256, .f32⟩
  | .hbm, ⟨15, _⟩ => ⟨S8x1024x256, .f32⟩
  | .hbm, ⟨16, _⟩ => ⟨S8x256x1024, .f32⟩
  | .hbm, ⟨17, _⟩ => ⟨S32768x4x128, .f32⟩
  | .hbm, ⟨18, _⟩ => ⟨S32768x4x64, .f32⟩
  | .hbm, ⟨19, _⟩ => ⟨S32768x256, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S8x4096x4x256, .f32⟩
  | .hbm, ⟨57, _⟩ => ⟨S8x256x1024, .f32⟩
  | .hbm, ⟨58, _⟩ => ⟨S8x256x4x256, .f32⟩
  | .hbm, ⟨59, _⟩ => ⟨S8x4x4096x256, .f32⟩
  | .hbm, ⟨60, _⟩ => ⟨S_, .f32⟩
  | .hbm, ⟨61, _⟩ => ⟨S8x4x4096x256, .f32⟩
  | .hbm, ⟨62, _⟩ => ⟨S8x4x4096x256, .f32⟩
  | .hbm, ⟨63, _⟩ => ⟨S_, .f32⟩
  | .hbm, ⟨64, _⟩ => ⟨S8x4x4096, .f32⟩
  | .hbm, ⟨65, _⟩ => ⟨S_, .f32⟩
  | .hbm, ⟨66, _⟩ => ⟨S8x4x4096, .f32⟩
  | .hbm, ⟨67, _⟩ => ⟨S8x4x4096, .f32⟩
  | .hbm, ⟨68, _⟩ => ⟨S8x4x4096x1, .f32⟩
  | .hbm, ⟨69, _⟩ => ⟨S8x4x4096x256, .f32⟩
  | .hbm, ⟨70, _⟩ => ⟨S8x4x4096x256, .f32⟩
  | .hbm, ⟨71, _⟩ => ⟨S8x4x4096x256, .f32⟩
  | .hbm, ⟨72, _⟩ => ⟨S_, .f32⟩
  | .hbm, ⟨73, _⟩ => ⟨S8x4x4096, .f32⟩
  | .hbm, ⟨74, _⟩ => ⟨S8x4x4096x1, .f32⟩
  | .hbm, ⟨75, _⟩ => ⟨S8x4x4096x256, .f32⟩
  | .hbm, ⟨76, _⟩ => ⟨S8x4x4096x256, .f32⟩
  | .hbm, ⟨77, _⟩ => ⟨S8x256x4x256, .f32⟩
  | .hbm, ⟨78, _⟩ => ⟨S8x4x256x4096, .f32⟩
  | .hbm, ⟨79, _⟩ => ⟨S8x4096x4x256, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S32768x1, .f32⟩
  | .hbm, ⟨93, _⟩ => ⟨S32768x1024, .f32⟩
  | .hbm, ⟨94, _⟩ => ⟨S32768x1024, .f32⟩
  | .hbm, ⟨95, _⟩ => ⟨S1x1024, .f32⟩
  | .hbm, ⟨96, _⟩ => ⟨S32768x1024, .f32⟩
  | .hbm, ⟨97, _⟩ => ⟨S32768x1024, .f32⟩
  | .hbm, ⟨98, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Memkv.lean ====
abbrev S8x256x1024 : Shape := ⟨3, ![8, 256, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S8x1024x256 : Shape := ⟨3, ![8, 1024, 256]⟩
abbrev S256x1024 : Shape := ⟨2, ![256, 1024]⟩
abbrev S1x1024x256 : Shape := ⟨3, ![1, 1024, 256]⟩
abbrev S1x256x1024 : Shape := ⟨3, ![1, 256, 1024]⟩
abbrev S256 : Shape := ⟨1, ![256]⟩
abbrev S256x1 : Shape := ⟨2, ![256, 1]⟩
abbrev S256x2048 : Shape := ⟨2, ![256, 2048]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S1x1024, .f32⟩
  | .hbm, ⟨5, _⟩ => ⟨S1024x2048, .bf16⟩
  | .hbm, ⟨6, _⟩ => ⟨S8x1024x256, .bf16⟩
  | .hbm, ⟨7, _⟩ => ⟨S8x256x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvRefIdeal.lean ====
abbrev S8x256x1024 : Shape := ⟨3, ![8, 256, 1024]⟩
abbrev S1024 : Shape := ⟨1, ![1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩
abbrev S8x1024x256 : Shape := ⟨3, ![8, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x2048, .f32⟩
  | .hbm, ⟨20, _⟩ => ⟨S8x256x1024, .f32⟩
  | .hbm, ⟨21, _⟩ => ⟨S8x256x1024, .f32⟩
  | .hbm, ⟨22, _⟩ => ⟨S8x1024x256, .f32⟩
  | .hbm, ⟨23, _⟩ => ⟨S8x1024x256, .bf16⟩
  | .hbm, ⟨24, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Mixers.lean ====
abbrev S32768x1280 : Shape := ⟨2, ![32768, 1280]⟩
abbrev S32768x128 : Shape := ⟨2, ![32768, 128]⟩
abbrev S4x768 : Shape := ⟨2, ![4, 768]⟩
abbrev S768 : Shape := ⟨1, ![768]⟩
abbrev S8 : Shape := ⟨1, ![8]⟩
abbrev S512 : Shape := ⟨1, ![512]⟩
abbrev S32768x1024 : Shape := ⟨2, ![32768, 1024]⟩
abbrev S4 : Shape := ⟨1, ![4]⟩
abbrev S64 : Shape := ⟨1, ![64]⟩
abbrev S1x768 : Shape := ⟨2, ![1, 768]⟩
abbrev S_ : Shape := ⟨0, ![]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S32768x512 : Shape := ⟨2, ![32768, 512]⟩
abbrev S32768x256 : Shape := ⟨2, ![32768, 256]⟩
abbrev S256x1280 : Shape := ⟨2, ![256, 1280]⟩
abbrev S256x128 : Shape := ⟨2, ![256, 128]⟩
abbrev S256x1024 : Shape := ⟨2, ![256, 1024]⟩
abbrev S256x512 : Shape := ⟨2, ![256, 512]⟩
abbrev S256x256 : Shape := ⟨2, ![256, 256]⟩
abbrev S264x768 : Shape := ⟨2, ![264, 768]⟩
abbrev S128x512 : Shape := ⟨2, ![128, 512]⟩
abbrev S128x256 : Shape := ⟨2, ![128, 256]⟩
abbrev S8x768 : Shape := ⟨2, ![8, 768]⟩
abbrev S256x768 : Shape := ⟨2, ![256, 768]⟩
abbrev S256x1 : Shape := ⟨2, ![256, 1]⟩
abbrev S64x256 : Shape := ⟨2, ![64, 256]⟩

abbrev nBuf : Space → Nat
  | .hbm => 40
  | .vmem => 32
  | .smem => 0
  | _ => 0

abbrev bufTy : (tb : Table) → Fin (tcTables nBuf tb) → BufTy
  | .hbm, ⟨0, _⟩ => ⟨S32768x1280, .f32⟩
  | .hbm, ⟨1, _⟩ => ⟨S32768x128, .f32⟩
  | .hbm, ⟨2, _⟩ => ⟨S4x768, .f32⟩
  | .hbm, ⟨3, _⟩ => ⟨S768, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S512, .f32⟩
  | .hbm, ⟨8, _⟩ => ⟨S32768x1024, .f32⟩
  | .hbm, ⟨9, _⟩ => ⟨S4x768, .f32⟩
  | .hbm, ⟨10, _⟩ => ⟨S4, .f32⟩
  | .hbm, ⟨11, _⟩ => ⟨S4, .f32⟩
  | .hbm, ⟨12, _⟩ => ⟨S64, .f32⟩
  | .hbm, ⟨13, _⟩ => ⟨S1x768, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x512, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S4x64, .f32⟩
  | .hbm, ⟨36, _⟩ => ⟨S256, .f32⟩
  | .hbm, ⟨37, _⟩ => ⟨S1x256, .f32⟩
  | .hbm, ⟨38, _⟩ => ⟨S32768x512, .bf16⟩
  | .hbm, ⟨39, _⟩ => ⟨S32768x256, .bf16⟩
  | .local _ .vmem, ⟨0, _⟩ => ⟨S256x1280, .f32⟩
  | .local _ .vmem, ⟨1, _⟩ => ⟨S256x1280, .f32⟩
  | .local _ .vmem, ⟨2, _⟩ => ⟨S256x128, .f32⟩
  | .local _ .vmem, ⟨3, _⟩ => ⟨S256x128, .f32⟩
  | .local _ .vmem, ⟨4, _⟩ => ⟨S4x768, .f32⟩
  | .local _ .vmem, ⟨5, _⟩ => ⟨S1x768, .f32⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S1x512, .f32⟩
  | .local _ .vmem, ⟨10, _⟩ => ⟨S256x1024, .f32⟩
  | .local _ .vmem, ⟨11, _⟩ => ⟨S256x1024, .f32⟩
  | .local _ .vmem, ⟨12, _⟩ => ⟨S4x768, .f32⟩
  | .local _ .vmem, ⟨13, _⟩ => ⟨S1x128, .f32⟩
  | .local _ .vmem, ⟨14, _⟩ => ⟨S1x128, .f32⟩
  | .local _ .vmem, ⟨15, _⟩ => ⟨S1x256, .f32⟩
  | .local _ .vmem, ⟨16, _⟩ => ⟨S256x512, .bf16⟩
  | .local _ .vmem, ⟨17, _⟩ => ⟨S256x512, .bf16⟩
  | .local _ .vmem, ⟨18, _⟩ => ⟨S256x256, .bf16⟩
  | .local _ .vmem, ⟨19, _⟩ => ⟨S256x256, .bf16⟩
  | .local _ .vmem, ⟨20, _⟩ => ⟨S264x768, .f32⟩
  | .local _ .vmem, ⟨21, _⟩ => ⟨S128x512, .f32⟩
  | .local _ .vmem, ⟨22, _⟩ => ⟨S264x768, .f32⟩
  | .local _ .vmem, ⟨23, _⟩ => ⟨S256x256, .f32⟩
  | .local _ .vmem, ⟨24, _⟩ => ⟨S256x256, .f32⟩
  | .local _ .vmem, ⟨25, _⟩ => ⟨S256x256, .bf16⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S128x512, .bf16⟩
  | .local _ .vmem, ⟨30, _⟩ => ⟨S128x256, .bf16⟩
  | .local _ .vmem, ⟨31, _⟩ => ⟨S128x256, .bf16⟩
  | _, _ => ⟨S32768x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_call2_v0 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_call3_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.Spec.lean ====
/-  Row formulas over the extended reals that both the kernels and the references are shown to compute. -/
module

public import Idealize.ShloMosaic.Lib.Pointwise

@[expose] public section
noncomputable section
open Idealize.ShloMosaic
namespace Cert.Own

/-- Root-mean-square normalisation of the row `x` with weights `g`, at place `k`; `c` is the row's length as a float. -/
def rmsAt {n : ℕ} (c : EReal) (x g : Fin n → EReal) (k : Fin n) : EReal :=
  x k * Ideal.rsqrt (Ideal.div (∑ j, x j * x j) c + Ideal.ofBits .f32 897988541#32) * g k

/-- One row of the SwiGLU feed-forward with its two norms and the halved residual, at place `l`. -/
def ffnAt (h g : Fin 1024 → EReal) (wg wu : Fin 1024 → Fin 2816 → EReal) (wd : Fin 2816 → Fin 1024 → EReal)
    (gp : Fin 1024 → EReal) (l : Fin 1024) : EReal :=
  h l + Ideal.ofBits .f32 1056964608#32 *
    rmsAt (Ideal.ofBits .f32 1149239296#32) (fun j => ∑ o,
      ((∑ k, rmsAt (Ideal.ofBits .f32 1149239296#32) h g k * wg k o)
        * Ideal.logistic (∑ k, rmsAt (Ideal.ofBits .f32 1149239296#32) h g k * wg k o)
        * ∑ k, rmsAt (Ideal.ofBits .f32 1149239296#32) h g k * wu k o) * wd o j) gp l

end Cert.Own
end
-- ==== Proof.FfnValue.lean ====
/-  The feed-forward kernel's result array: every row is the feed-forward formula of the row of the argument. -/
module

public import proofs.«01_k».proof.Proof.Spec
public import proofs.«01_k».proof.Proof.Gen.FfnIdeal.Value
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.FfnIdeal.Own
open Cert.FfnIdeal Cert.FfnIdeal.Gen Cert.Own

variable (m : (ℓ : Loc nD τ sig) → Buf (Elt Ideal) ℓ) (ρ : Dev nD → PrngReg)

/-- The value the body stores, at row `r` and lane `l` of its block. -/
theorem pay_at (P0 : Vec Ideal S512x1024 .f32) (P1 : Vec Ideal S1x1024 .f32) (P2 : Vec Ideal S1024x2816 .bf16)
    (P3 : Vec Ideal S1024x2816 .bf16) (P4 : Vec Ideal S2816x1024 .bf16) (P5 : Vec Ideal S1x1024 .f32) (r : Fin 512) (l : Fin 1024) :
    k0_pay1 (F := Ideal) P0 (k0_pay2 P0 P1 P2 P3 P4) (k0_pay3 P5) (k0_pay4 P0 P1 P2 P3 P4) (ix2 r l)
      = ffnAt (fun k => P0 (ix2 r k)) (fun k => P1 (ix2 0 k)) (fun k o => P2 (ix2 k o)) (fun k o => P3 (ix2 k o))
          (fun o j => P4 (ix2 o j)) (fun k => P5 (ix2 0 k)) l := by
  pointwise [k0_pay1, k0_pay2, k0_pay3, k0_pay4, ffnAt, rmsAt]
  try rfl

/-- The result array as one function of the arguments. -/
def G (x0 : S32768x1024.Idx → EReal) (x1 : S1024.Idx → EReal) (x2 : S1024x5632.Idx → EReal) (x3 : S2816x1024.Idx → EReal)
    (x4 : S1024.Idx → EReal) (j : S32768x1024.Idx) : EReal :=
  ffnAt (fun k => x0 (ix2 (j 0) k)) (fun k => x1 (ix1 k)) (fun k o => x2 (ix2 k ⟨o.val, by omega⟩))
    (fun k o => x2 (ix2 k ⟨2816 + o.val, by omega⟩)) (fun o l => x3 (ix2 o l)) (fun k => x4 (ix1 k)) (j 1)

/-- The block index of every window at a grid point. -/
theorem idx (t : Fin cfg0.N) : win0_0.index t = ![t.val, 0] ∧ win0_1.index t = ![0, 0] ∧ win0_2.index t = ![0, 0]
    ∧ win0_3.index t = ![0, 1] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 1] ∧ win0_4.index t = ![0, 0] ∧ win0_5.index t = ![0, 0] ∧ win0_6.index t = ![t.val, 0]) t

/-- The array after the run is `G` of the arguments. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  rw [pay_at]
  have e0 : ∀ k, iblk m c 0 t (ix2 y0 k) = m ((c : Thread nD τ).loc main_arg0) (ix2 (((View.whole main_v4).slice (win0_6.rect t)).emb (ix2 y0 y1) 0) k) := fun k => by
    blk_ext! [iblk, V, idx t]
  have e1 : ∀ k, iblk m c 1 t (ix2 0 k) = m ((c : Thread nD τ).loc main_arg1) (ix1 k) := fun k => by
    blk_ext! [iblk, V, idx t]
  have e2 : ∀ k (o : Fin 2816), iblk m c 2 t (ix2 k o) = m ((c : Thread nD τ).loc main_arg2) (ix2 k ⟨o.val, by omega⟩) := fun k o => by
    blk_ext! [iblk, V, idx t]
  have e3 : ∀ k (o : Fin 2816), iblk m c 3 t (ix2 k o) = m ((c : Thread nD τ).loc main_arg2) (ix2 k ⟨2816 + o.val, by omega⟩) := fun k o => by
    blk_ext! [iblk, V, idx t]
  have e4 : ∀ k o, iblk m c 4 t (ix2 k o) = m ((c : Thread nD τ).loc main_arg3) (ix2 k o) := fun k o => by
    blk_ext! [iblk, V, idx t]
  have e5 : ∀ k, iblk m c 5 t (ix2 0 k) = m ((c : Thread nD τ).loc main_arg4) (ix1 k) := fun k => by
    blk_ext! [iblk, V, idx t]
  simp only [e0, e1, e2, e3, e4, e5]
  have hl : ((View.whole main_v4).slice (win0_6.rect t)).emb (ix2 y0 y1) 1 = y1 := by
    apply Fin.ext; blk_simp [idx t]
  unfold G
  rw [hl]

/-- The kernel's run: the result array is `G` of the arguments, which end unchanged. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.FfnIdeal.Own
end
-- ==== Proof.FfnRefValue.lean ====
/-  The feed-forward reference's result array: the same row formula. -/
module

public import proofs.«01_k».proof.Proof.FfnValue
public import proofs.«01_k».proof.Proof.Gen.FfnRefIdeal.Read

@[expose] public section
set_option maxRecDepth 16384
noncomputable section
open Idealize.ShloMosaic Idealize.ShloMosaic.TcCoe Idealize.SL.Sem
namespace Cert.FfnRefIdeal.Own
open Cert.FfnRefIdeal Cert.FfnRefIdeal.Gen Cert.FfnRefIdeal.Read Cert.Own

/-- `x · 1/(1 + exp (-x))` as the reference spells it is the logistic. -/
theorem logistic_eq (x : EReal) : Ideal.div 1 (1 + Ideal.exp (-x)) = Ideal.logistic x := by
  rfl

variable (x0 : (⟨S32768x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S1024, .f32⟩ : BufTy).Contents (Elt Ideal))

/-- The first norm at an index. -/
theorem norm_at (r : Fin 32768) (k : Fin 1024) : val_main_v12 (F := Ideal) x0 x1 (ix2 r k)
    = rmsAt (Ideal.ofBits .f32 1149239296#32) (fun k => x0 (ix2 r k)) (fun k => x1 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rmsAt]

/-- The down-projection at an index. -/
theorem down_at (r : Fin 32768) (l : Fin 1024) : val_main_v18 (F := Ideal) x0 x1 x2 x3 (ix2 r l) = ∑ o : Fin 2816,
      ((∑ k, rmsAt (Ideal.ofBits .f32 1149239296#32) (fun k => x0 (ix2 r k)) (fun k => x1 (ix1 k)) k * x2 (ix2 k ⟨o.val, by omega⟩))
        * Ideal.logistic (∑ k, rmsAt (Ideal.ofBits .f32 1149239296#32) (fun k => x0 (ix2 r k)) (fun k => x1 (ix1 k)) k * x2 (ix2 k ⟨o.val, by omega⟩))
        * ∑ k, rmsAt (Ideal.ofBits .f32 1149239296#32) (fun k => x0 (ix2 r k)) (fun k => x1 (ix1 k)) k * x2 (ix2 k ⟨2816 + o.val, by omega⟩)) * x3 (ix2 o l) := by
  pointwise [val_main_v18, val_main_v17, val_main_v16, val_main_v15, val_main_v14, val_main_v13, val_main_call0_v5, val_main_call0_v4,
    val_main_call0_v3, val_main_call0_v2, val_main_call0_v1, val_main_call0_v0, val_main_call0_cst, val_main_call0_cst_0]
  simp only [norm_at, logistic_eq]

/-- The reference's result at an index. -/
theorem out_at (j : S32768x1024.Idx) : val_main_v34 (F := Ideal) x0 x1 x2 x3 x4 j = Cert.FfnIdeal.Own.G x0 x1 x2 x3 x4 j := by
  idx_vars j
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_cst_2, val_main_cst_3,
    val_main_cst_4, val_main_cst_5]
  simp only [down_at]
  unfold Cert.FfnIdeal.Own.G ffnAt
  rfl
/-- The reference's run: its result is the same function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v34) = Cert.FfnIdeal.Own.G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((val_main_v34_eq m c).trans (funext fun j => out_at _ _ _ _ _ j)), (h c).2⟩)
    (Value.run m ρ)

end Cert.FfnRefIdeal.Own
end
-- ==== Proof.Flash.lean ====
/-  The arithmetic of a softmax in base two taken tile by tile over extended reals: a running maximum, and an
    accumulator rescaled as the maximum moves, end at the weighted mean of the values. No program is named here. -/
module

public import Idealize.ShloMosaic.Lib.Pointwise

@[expose] public section
noncomputable section
open Idealize.ShloMosaic
namespace Cert.Own

/-- The weight of a score: two to its power, zero for a masked one. -/
def wt (s : EReal) : ℝ := (Ideal.exp2 s).toReal

theorem exp2_bot : Ideal.exp2 ⊥ = 0 := rfl
theorem exp_bot : Ideal.exp ⊥ = 0 := rfl
/-- A masked score weighs nothing. -/
theorem wt_bot : wt ⊥ = 0 := by rw [wt, exp2_bot, EReal.toReal_zero]
/-- A real score weighs two to its power. -/
theorem wt_coe (r : ℝ) : wt (r : EReal) = (2 : ℝ) ^ r := by
  show EReal.toReal (((2 : ℝ) ^ r : ℝ) : EReal) = _
  rw [EReal.toReal_coe]
/-- No weight is negative. -/
theorem wt_nonneg (s : EReal) : 0 ≤ wt s := by
  induction s using EReal.rec with
  | bot => rw [wt_bot]
  | top => exact le_of_eq (show (0 : ℝ) = EReal.toReal ⊤ by simp)
  | coe r => rw [wt_coe]; positivity

/-- Two to a score less a real maximum. -/
theorem exp2_sub {s : EReal} (hs : s ≠ ⊤) (M : ℝ) : Ideal.exp2 (s - (M : EReal)) = ((wt s * (2 : ℝ) ^ (-M) : ℝ) : EReal) := by
  induction s using EReal.rec with
  | bot => rw [wt_bot, EReal.bot_sub, exp2_bot, zero_mul, EReal.coe_zero]
  | top => exact absurd rfl hs
  | coe r =>
    rw [wt_coe, ← EReal.coe_sub]
    show (((2 : ℝ) ^ (r - M) : ℝ) : EReal) = _
    rw [sub_eq_add_neg, Real.rpow_add (by norm_num)]

/-- The exponential of a score times `log 2` less a real, in the same weights. -/
theorem exp_sub {s : EReal} (hs : s ≠ ⊤) (M : ℝ) :
    Ideal.exp (s * ((Real.log 2 : ℝ) : EReal) - (M : EReal)) = ((wt s * Real.exp (-M) : ℝ) : EReal) := by
  induction s using EReal.rec with
  | bot =>
    rw [EReal.bot_mul_coe_of_pos (Real.log_pos (by norm_num))]
    rw [wt_bot, EReal.bot_sub, exp_bot, zero_mul, EReal.coe_zero]
  | top => exact absurd rfl hs
  | coe r =>
    rw [wt_coe, ← EReal.coe_mul, ← EReal.coe_sub]
    show ((Real.exp (r * Real.log 2 - M) : ℝ) : EReal) = _
    rw [sub_eq_add_neg, Real.exp_add, Real.rpow_def_of_pos (by norm_num), mul_comm (Real.log 2)]

/-- A finite sum of reals read as extended reals. -/
theorem coe_sum {ι : Type} (s : Finset ι) (f : ι → ℝ) : ((∑ i ∈ s, f i : ℝ) : EReal) = ∑ i ∈ s, (f i : EReal) :=
  map_sum (⟨⟨Real.toEReal, rfl⟩, fun a b => EReal.coe_add a b⟩ : ℝ →+ EReal) f s

/-- The running state of one query after some keys: its maximum is real and its accumulator is the weighted sum of the values so
    far, scaled by two to minus the maximum; or nothing real was met yet. -/
def Run {D : ℕ} (m : EReal) (acc : Fin D → EReal) (num : Fin D → ℝ) : Prop :=
  (∃ M : ℝ, m = M ∧ ∀ d, acc d = ((num d * (2 : ℝ) ^ (-M) : ℝ) : EReal)) ∨ (m = ⊥ ∧ ∀ d, acc d = 0 ∧ num d = 0)

theorem Run.start {D : ℕ} : Run (D := D) ⊥ (fun _ => 0) (fun _ => 0) := Or.inr ⟨rfl, fun _ => ⟨rfl, rfl⟩⟩

theorem Run.ne_top {D : ℕ} {m : EReal} {acc : Fin D → EReal} {num : Fin D → ℝ} (h : Run m acc num) : m ≠ ⊤ := by
  rcases h with ⟨M, rfl, _⟩ | ⟨rfl, _⟩
  · exact EReal.coe_ne_top M
  · exact bot_ne_top

/-- The maximum of a state's and a tile's scores is real where one score of the tile is. -/
theorem max_real {K : ℕ} {m : EReal} (hm : m ≠ ⊤) (S : Fin K → EReal) (hS : ∀ k, S k ≠ ⊤) (k0 : Fin K) (h0 : S k0 ≠ ⊥) :
    ∃ M : ℝ, max m (Finset.fold max ⊥ S Finset.univ) = M := by
  have ht : max m (Finset.fold max ⊥ S Finset.univ) ≠ ⊤ := by
    refine ne_of_lt (max_lt (lt_top_iff_ne_top.2 hm) (Finset.fold_max_lt _ |>.2 ⟨bot_lt_top, fun k _ => lt_top_iff_ne_top.2 (hS k)⟩))
  have hb : max m (Finset.fold max ⊥ S Finset.univ) ≠ ⊥ := by
    refine ne_of_gt (lt_max_of_lt_right (Finset.lt_fold_max _ |>.2 (Or.inr ⟨k0, Finset.mem_univ _, bot_lt_iff_ne_bot.2 h0⟩)))
  exact ⟨_, (EReal.coe_toReal ht hb).symm⟩

/-- One tile: the maximum moves to any real, the accumulator is rescaled and takes the tile's weighted values. -/
theorem Run.step {D K : ℕ} {m : EReal} {acc : Fin D → EReal} {num : Fin D → ℝ} (h : Run m acc num) (M : ℝ)
    (S : Fin K → EReal) (hS : ∀ k, S k ≠ ⊤) (v : Fin D → Fin K → ℝ) :
    Run (M : EReal) (fun d => Ideal.exp2 (m - (M : EReal)) * acc d + ∑ k, (v d k : EReal) * Ideal.exp2 (S k - (M : EReal)))
      (fun d => num d + ∑ k, v d k * wt (S k)) := by
  refine Or.inl ⟨M, rfl, fun d => ?_⟩
  have e : ∑ k, (v d k : EReal) * Ideal.exp2 (S k - (M : EReal)) = (((∑ k, v d k * wt (S k)) * (2 : ℝ) ^ (-M) : ℝ) : EReal) := by
    rw [Finset.sum_mul, coe_sum]
    refine Finset.sum_congr rfl fun k _ => ?_
    rw [exp2_sub (hS k), ← EReal.coe_mul, mul_assoc]
  show Ideal.exp2 (m - (M : EReal)) * acc d + _ = (((num d + ∑ k, v d k * wt (S k)) * (2 : ℝ) ^ (-M) : ℝ) : EReal)
  rw [e]
  rcases h with ⟨M0, rfl, ha⟩ | ⟨rfl, ha⟩
  · rw [ha d, exp2_sub (EReal.coe_ne_top _), wt_coe, ← EReal.coe_mul, ← EReal.coe_add]
    congr 1
    have : (2 : ℝ) ^ M0 * (2 : ℝ) ^ (-M0) = 1 := by rw [← Real.rpow_add (by norm_num)]; simp
    calc _ = ((2 : ℝ) ^ M0 * (2 : ℝ) ^ (-M0)) * (num d * (2 : ℝ) ^ (-M)) + (∑ k, v d k * wt (S k)) * (2 : ℝ) ^ (-M) := by ring
      _ = _ := by rw [this]; ring
  · rw [(ha d).1, (ha d).2, mul_zero, zero_add, zero_add]

/-- The quotient at the end. -/
theorem Run.done {D : ℕ} {m : EReal} {acc : Fin D → EReal} {num : Fin D → ℝ} (h : Run m acc num) (o d : Fin D) (ho : num o ≠ 0) :
    Ideal.div (acc d) (acc o) = ((num d / num o : ℝ) : EReal) := by
  rcases h with ⟨M, rfl, ha⟩ | ⟨_, ha⟩
  · have hp : (2 : ℝ) ^ (-M) ≠ 0 := by positivity
    have hne : num o * (2 : ℝ) ^ (-M) ≠ 0 := mul_ne_zero ho hp
    rw [ha d, ha o, Ideal.div, if_neg (by exact_mod_cast hne), ← EReal.coe_inv, ← EReal.coe_mul, ← div_eq_mul_inv,
      mul_div_mul_right _ _ hp]
  · exact absurd (ha o).2 ho

/-- Softmax read as weights: with the scores times `log 2`, an exponential less a real maximum over the sum of them is the weight
    over the sum of weights, and so is the mean of the values. -/
theorem softmax_mean {K : ℕ} (S : Fin K → EReal) (hS : ∀ k, S k ≠ ⊤) (M : ℝ) (v : Fin K → ℝ) (hpos : ∑ k, wt (S k) ≠ 0) :
    ∑ k, Ideal.div (Ideal.exp (S k * ((Real.log 2 : ℝ) : EReal) - (M : EReal)))
        (∑ j, Ideal.exp (S j * ((Real.log 2 : ℝ) : EReal) - (M : EReal))) * (v k : EReal)
      = (((∑ k, v k * wt (S k)) / ∑ k, wt (S k) : ℝ) : EReal) := by
  have hE : Real.exp (-M) ≠ 0 := (Real.exp_pos _).ne'
  have e : ∑ j, Ideal.exp (S j * ((Real.log 2 : ℝ) : EReal) - (M : EReal)) = (((∑ j, wt (S j)) * Real.exp (-M) : ℝ) : EReal) := by
    rw [Finset.sum_mul, coe_sum]
    exact Finset.sum_congr rfl fun j _ => exp_sub (hS j) M
  have hne : (∑ j, wt (S j)) * Real.exp (-M) ≠ 0 := mul_ne_zero hpos hE
  rw [e, Finset.sum_div, coe_sum]
  refine Finset.sum_congr rfl fun k _ => ?_
  rw [exp_sub (hS k), Ideal.div, if_neg (by exact_mod_cast hne), ← EReal.coe_inv, ← EReal.coe_mul, ← EReal.coe_mul,
    ← div_eq_mul_inv, mul_div_mul_right _ _ hE]
  congr 1
  ring

end Cert.Own
end
-- ==== Proof.AttnTile.lean ====
/-  The attention kernel's payloads at an index: scores, running maximum, weights, accumulator, for the four heads. -/
module

public import proofs.«01_k».proof.Proof.Gen.AttnIdeal.Skeleton
public import proofs.«01_k».proof.Proof.Flash
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
namespace Cert.AttnIdeal.Own
open Cert.AttnIdeal Cert.AttnIdeal.Gen Cert.Own

/-- The pattern of minus infinity denotes the bottom. -/
theorem ninf : Ideal.ofBits .f32 4286578688#32 = ⊥ := by simp [Ideal.ofBits, Ideal.ieee]

/-- The named mask is the bottom. -/
theorem mask_eq : (Named.named κ "mask" 4048155338#32 : Ideal .f32) = (⊥ : EReal) := rfl

/-- The score of a tile's key against a query: head `h`'s 128 lanes of the key block by the head's query column. -/
def sc (h : Fin 4) (kb : S1x512x512.Idx → EReal) (q : S1x1x128x512.Idx → EReal) (k r : Fin 512) : EReal :=
  ∑ d : Fin 128, kb (ix3 0 k ⟨128 * h.val + d.val, by omega⟩) * q (ix4 0 0 d r)

variable (q : Vec Ideal S1x1x128x512 .bf16) (kb : Vec Ideal S1x512x512 .bf16) (mx : FVec Ideal S1x512 .f32) (acc : FVec Ideal S80x512 .f32)
  (vb : Vec Ideal S1x1x80x512 .bf16)

/-- Head 0: a score. -/
theorem s0 (k r : Fin 512) : k0_pay3 (F := Ideal) (k0_pay30 q) kb (ix2 k r) = sc 0 kb q k r := by
  pointwise [k0_pay3, k0_pay2, k0_pay30, sc]
  try rfl
/-- Head 0: the new maximum. -/
theorem m0 (r : Fin 512) : k0_pay7 (F := Ideal) (k0_pay30 q) mx kb (ix2 0 r)
    = max (mx (ix2 0 r)) (Finset.fold max ⊥ (fun k => sc 0 kb q k r) Finset.univ) := by
  pointwise [k0_pay7]
  simp only [s0, ninf]
/-- Head 0: a weight. -/
theorem p0 (k r : Fin 512) : k0_pay11 (F := Ideal) (k0_pay30 q) mx kb (ix2 k r)
    = Ideal.exp2 (sc 0 kb q k r - k0_pay7 (F := Ideal) (k0_pay30 q) mx kb (ix2 0 r)) := by
  pointwise [k0_pay11]
  simp only [s0]
  rfl
/-- Head 0: the new accumulator. -/
theorem a0 (d : Fin 80) (r : Fin 512) :
    k0_pay42 (F := Ideal) mx acc (k0_pay7 (k0_pay30 q) mx kb) (k0_pay11 (k0_pay30 q) mx kb) (k0_pay15 vb) (constant S80x512 .f32 0#32) (ix2 d r)
    = Ideal.exp2 (mx (ix2 0 r) - k0_pay7 (F := Ideal) (k0_pay30 q) mx kb (ix2 0 r)) * acc (ix2 d r)
      + ∑ k, vb (ix4 0 0 d k) * Ideal.exp2 (sc 0 kb q k r - k0_pay7 (F := Ideal) (k0_pay30 q) mx kb (ix2 0 r)) := by
  pointwise [k0_pay42, k0_pay15]
  simp only [p0]
  rfl
/-- Head 1: a score. -/
theorem s1 (k r : Fin 512) : k0_pay4 (F := Ideal) (k0_pay31 q) kb (ix2 k r) = sc 1 kb q k r := by
  pointwise [k0_pay4, k0_pay2, k0_pay31, sc]
  try rfl
/-- Head 1: the new maximum. -/
theorem m1 (r : Fin 512) : k0_pay8 (F := Ideal) (k0_pay31 q) mx kb (ix2 0 r)
    = max (mx (ix2 0 r)) (Finset.fold max ⊥ (fun k => sc 1 kb q k r) Finset.univ) := by
  pointwise [k0_pay8]
  simp only [s1, ninf]
/-- Head 1: a weight. -/
theorem p1 (k r : Fin 512) : k0_pay12 (F := Ideal) (k0_pay31 q) mx kb (ix2 k r)
    = Ideal.exp2 (sc 1 kb q k r - k0_pay8 (F := Ideal) (k0_pay31 q) mx kb (ix2 0 r)) := by
  pointwise [k0_pay12]
  simp only [s1]
  rfl
/-- Head 1: the new accumulator. -/
theorem a1 (d : Fin 80) (r : Fin 512) :
    k0_pay43 (F := Ideal) mx acc (k0_pay8 (k0_pay31 q) mx kb) (k0_pay12 (k0_pay31 q) mx kb) vb (ix2 d r)
    = Ideal.exp2 (mx (ix2 0 r) - k0_pay8 (F := Ideal) (k0_pay31 q) mx kb (ix2 0 r)) * acc (ix2 d r)
      + ∑ k, vb (ix4 0 0 d k) * Ideal.exp2 (sc 1 kb q k r - k0_pay8 (F := Ideal) (k0_pay31 q) mx kb (ix2 0 r)) := by
  pointwise [k0_pay43]
  simp only [p1]
  rfl
/-- Head 2: a score. -/
theorem s2 (k r : Fin 512) : k0_pay5 (F := Ideal) (k0_pay32 q) kb (ix2 k r) = sc 2 kb q k r := by
  pointwise [k0_pay5, k0_pay2, k0_pay32, sc]
  try rfl
/-- Head 2: the new maximum. -/
theorem m2 (r : Fin 512) : k0_pay9 (F := Ideal) (k0_pay32 q) mx kb (ix2 0 r)
    = max (mx (ix2 0 r)) (Finset.fold max ⊥ (fun k => sc 2 kb q k r) Finset.univ) := by
  pointwise [k0_pay9]
  simp only [s2, ninf]
/-- Head 2: a weight. -/
theorem p2 (k r : Fin 512) : k0_pay13 (F := Ideal) (k0_pay32 q) mx kb (ix2 k r)
    = Ideal.exp2 (sc 2 kb q k r - k0_pay9 (F := Ideal) (k0_pay32 q) mx kb (ix2 0 r)) := by
  pointwise [k0_pay13]
  simp only [s2]
  rfl
/-- Head 2: the new accumulator. -/
theorem a2 (d : Fin 80) (r : Fin 512) :
    k0_pay44 (F := Ideal) mx acc (k0_pay9 (k0_pay32 q) mx kb) (k0_pay13 (k0_pay32 q) mx kb) vb (ix2 d r)
    = Ideal.exp2 (mx (ix2 0 r) - k0_pay9 (F := Ideal) (k0_pay32 q) mx kb (ix2 0 r)) * acc (ix2 d r)
      + ∑ k, vb (ix4 0 0 d k) * Ideal.exp2 (sc 2 kb q k r - k0_pay9 (F := Ideal) (k0_pay32 q) mx kb (ix2 0 r)) := by
  pointwise [k0_pay44]
  simp only [p2]
  rfl
/-- Head 3: a score. -/
theorem s3 (k r : Fin 512) : k0_pay6 (F := Ideal) (k0_pay33 q) kb (ix2 k r) = sc 3 kb q k r := by
  pointwise [k0_pay6, k0_pay2, k0_pay33, sc]
  try rfl
/-- Head 3: the new maximum. -/
theorem m3 (r : Fin 512) : k0_pay10 (F := Ideal) (k0_pay33 q) mx kb (ix2 0 r)
    = max (mx (ix2 0 r)) (Finset.fold max ⊥ (fun k => sc 3 kb q k r) Finset.univ) := by
  pointwise [k0_pay10]
  simp only [s3, ninf]
/-- Head 3: a weight. -/
theorem p3 (k r : Fin 512) : k0_pay14 (F := Ideal) (k0_pay33 q) mx kb (ix2 k r)
    = Ideal.exp2 (sc 3 kb q k r - k0_pay10 (F := Ideal) (k0_pay33 q) mx kb (ix2 0 r)) := by
  pointwise [k0_pay14]
  simp only [s3]
  rfl
/-- Head 3: the new accumulator. -/
theorem a3 (d : Fin 80) (r : Fin 512) :
    k0_pay45 (F := Ideal) mx acc (k0_pay10 (k0_pay33 q) mx kb) (k0_pay14 (k0_pay33 q) mx kb) vb (ix2 d r)
    = Ideal.exp2 (mx (ix2 0 r) - k0_pay10 (F := Ideal) (k0_pay33 q) mx kb (ix2 0 r)) * acc (ix2 d r)
      + ∑ k, vb (ix4 0 0 d k) * Ideal.exp2 (sc 3 kb q k r - k0_pay10 (F := Ideal) (k0_pay33 q) mx kb (ix2 0 r)) := by
  pointwise [k0_pay45]
  simp only [p3]
  rfl

/-- A block state: the maxima and accumulators of a head's 512 queries, each a running state over the keys so far. -/
def HRun (mx : FVec Ideal S1x512 .f32) (acc : FVec Ideal S80x512 .f32) (num : Fin 512 → Fin 80 → ℝ) : Prop :=
  ∀ r, Run (mx (ix2 0 r)) (fun d => acc (ix2 d r)) (num r)

/-- One tile moves a block state, whatever the program's terms for the new maxima and accumulators. -/
theorem HRun.step {mx : FVec Ideal S1x512 .f32} {acc : FVec Ideal S80x512 .f32} {num : Fin 512 → Fin 80 → ℝ} (h : HRun mx acc num)
    (S : Fin 512 → Fin 512 → EReal) (hS : ∀ k r, S k r ≠ ⊤) (hS0 : ∀ r, ∃ k, S k r ≠ ⊥) (v : Fin 80 → Fin 512 → EReal)
    (hv : ∀ d k, v d k ≠ ⊤ ∧ v d k ≠ ⊥) (mx' : FVec Ideal S1x512 .f32) (acc' : FVec Ideal S80x512 .f32)
    (hm : ∀ r, mx' (ix2 0 r) = max (mx (ix2 0 r)) (Finset.fold max ⊥ (fun k => S k r) Finset.univ))
    (ha : ∀ d r, acc' (ix2 d r) = Ideal.exp2 (mx (ix2 0 r) - mx' (ix2 0 r)) * acc (ix2 d r)
      + ∑ k, v d k * Ideal.exp2 (S k r - mx' (ix2 0 r))) :
    HRun mx' acc' (fun r d => num r d + ∑ k, (v d k).toReal * wt (S k r)) := by
  intro r
  obtain ⟨k0, hk0⟩ := hS0 r
  obtain ⟨M, hM⟩ := max_real (h r).ne_top (fun k => S k r) (fun k => hS k r) k0 hk0
  have e : mx' (ix2 0 r) = (M : EReal) := (hm r).trans hM
  have st := (h r).step M (fun k => S k r) (fun k => hS k r) (fun d k => (v d k).toReal)
  rw [e]
  have hacc : (fun d => acc' (ix2 d r)) = (fun d => Ideal.exp2 (mx (ix2 0 r) - (M : EReal)) * acc (ix2 d r)
      + ∑ k, (((v d k).toReal : ℝ) : EReal) * Ideal.exp2 (S k r - (M : EReal))) := by
    funext d
    rw [ha d r, e]
    simp only [EReal.coe_toReal (hv d _).1 (hv d _).2]
  rw [hacc]
  exact st

end Cert.AttnIdeal.Own
end
-- ==== Proof.AttnDiag.lean ====
/-  The attention kernel's diagonal tile (the keys of the query's own tile, of which the chunk mask lets some through) and its
    last lines (the quotient by the row of sums) at an index. -/
module

public import proofs.«01_k».proof.Proof.AttnTile

@[expose] public section
set_option maxRecDepth 16384
noncomputable section
open Idealize.ShloMosaic Idealize.ShloMosaic.TcCoe Idealize.SL.Sem
namespace Cert.AttnIdeal.Own
open Cert.AttnIdeal Cert.AttnIdeal.Gen Cert.Own

/-- The floor of a key's row by 64, as the program computes it. -/
theorem row_div : ∀ k : Fin 512, Scalar.select
        (IntOp.andi
          (IntOp.cmpi CmpIPredicate.ne
            (IntOp.subi (BitVec.setWidth 32 (IntOp.cmpi CmpIPredicate.sgt (IntOp.addi (BitVec.ofNat 32 k.val) 0#32) 0#32))
              (BitVec.setWidth 32 (IntOp.cmpi CmpIPredicate.slt (IntOp.addi (BitVec.ofNat 32 k.val) 0#32) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (IntOp.addi (BitVec.ofNat 32 k.val) 0#32) 64#32)
            0#32))
        (IntOp.subi (IntOp.divsi ArithUnit.vector (IntOp.addi (BitVec.ofNat 32 k.val) 0#32) 64#32) 1#32)
        (IntOp.divsi ArithUnit.vector (IntOp.addi (BitVec.ofNat 32 k.val) 0#32) 64#32) = BitVec.ofNat 32 (k.val / 64) := by
  decide +kernel

/-- The floor of a query's column by 64, as the program computes it. -/
theorem col_div : ∀ r : Fin 512, Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32) = BitVec.ofNat 32 (r.val / 64) := by
  decide +kernel

/-- Chunk numbers compare as words as they do as numbers. -/
theorem sle_small : ∀ a b : Fin 8, IntOp.cmpi CmpIPredicate.sle (BitVec.ofNat 32 a.val) (BitVec.ofNat 32 b.val)
    = if a.val ≤ b.val then 1#1 else 0#1 := by decide +kernel

/-- The mask of the diagonal tile: a key is let through where its chunk is not after the query's. -/
theorem mask_at (k r : Fin 512) : k0_pay54 (k0_pay51) (iota .tc S512x512 32 [1] iota_S512x512_d1_w32) 64#32 k0_pay52 k0_pay53
   (Scalar.extui (Scalar.cmpi .sgt 64#32 0#32)) (Scalar.cmpi .slt 64#32 0#32) (ix2 k r)
    = if k.val / 64 ≤ r.val / 64 then 1#1 else 0#1 := by
  pointwise [k0_pay54, k0_pay51, k0_pay52, k0_pay53]
  rw [row_div, col_div]
  exact sle_small ⟨k.val / 64, by omega⟩ ⟨r.val / 64, by omega⟩

/-- A score of the diagonal tile, the bottom where the mask hides it. -/
def msc (h : Fin 4) (kb : S1x512x512.Idx → EReal) (q : S1x1x128x512.Idx → EReal) (k r : Fin 512) : EReal :=
  if k.val / 64 ≤ r.val / 64 then sc h kb q k r else ⊥

variable (q : Vec Ideal S1x1x128x512 .bf16) (kb : Vec Ideal S1x512x512 .bf16) (mx : FVec Ideal S1x512 .f32) (acc : FVec Ideal S80x512 .f32)
  (vb : Vec Ideal S1x1x80x512 .bf16)

/-- Head 0: the masked scores. -/
abbrev S0 : FVec Ideal S512x512 .f32 := k0_pay55 (F := Ideal) (k0_pay30 q) (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 0: the new maxima over the diagonal tile. -/
abbrev N0 : FVec Ideal S1x512 .f32 := k0_pay59 (F := Ideal) (k0_pay30 q) mx (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 0: a masked score. -/
theorem ds0 (k r : Fin 512) : S0 q kb (ix2 k r) = msc 0 kb q k r := by
  unfold S0
  pointwise [k0_pay55, k0_pay50, k0_pay30]
  rw [mask_at, mask_eq]
  unfold msc sc
  by_cases hc : k.val / 64 ≤ r.val / 64
  · rw [if_pos hc, if_pos hc]; rfl
  · rw [if_neg hc, if_neg hc]; rfl
/-- Head 0: the new maximum. -/
theorem dm0 (r : Fin 512) : N0 q kb mx (ix2 0 r)
    = max (mx (ix2 0 r)) (Finset.fold max ⊥ (fun k => msc 0 kb q k r) Finset.univ) := by
  have e : N0 q kb mx (ix2 0 r) = max (mx (ix2 0 r)) (Finset.fold max (Ideal.ofBits .f32 4286578688#32) (fun k => S0 q kb (ix2 k r)) Finset.univ) := by
    unfold N0
    pointwise [k0_pay59]
  rw [e, ninf]
  simp only [ds0]
/-- Head 0: the accumulators after the diagonal tile. -/
abbrev A0 : FVec Ideal S80x512 .f32 := k0_pay66 (F := Ideal) mx acc (N0 q kb mx) (k0_pay63 (k0_pay30 q) mx (k0_pay50 kb) (k0_pay51) (iota .tc S512x512 32 [1] iota_S512x512_d1_w32) 64#32 k0_pay52 k0_pay53 (Scalar.extui (Scalar.cmpi .sgt 64#32 0#32)) (Scalar.cmpi .slt 64#32 0#32)) vb
/-- Head 0: the new accumulator. -/
theorem da0 (d : Fin 80) (r : Fin 512) : A0 q kb mx acc vb (ix2 d r)
    = Ideal.exp2 (mx (ix2 0 r) - N0 q kb mx (ix2 0 r)) * acc (ix2 d r)
      + ∑ k, vb (ix4 0 0 d k) * Ideal.exp2 (msc 0 kb q k r - N0 q kb mx (ix2 0 r)) := by
  simp only [← ds0]
  unfold A0
  pointwise [k0_pay66, k0_pay63]
  rfl
/-- Head 1: the masked scores. -/
abbrev S1 : FVec Ideal S512x512 .f32 := k0_pay56 (F := Ideal) (k0_pay31 q) (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 1: the new maxima over the diagonal tile. -/
abbrev N1 : FVec Ideal S1x512 .f32 := k0_pay60 (F := Ideal) (k0_pay31 q) mx (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 1: a masked score. -/
theorem ds1 (k r : Fin 512) : S1 q kb (ix2 k r) = msc 1 kb q k r := by
  unfold S1
  pointwise [k0_pay56, k0_pay50, k0_pay31]
  rw [mask_at, mask_eq]
  unfold msc sc
  by_cases hc : k.val / 64 ≤ r.val / 64
  · rw [if_pos hc, if_pos hc]; rfl
  · rw [if_neg hc, if_neg hc]; rfl
/-- Head 1: the new maximum. -/
theorem dm1 (r : Fin 512) : N1 q kb mx (ix2 0 r)
    = max (mx (ix2 0 r)) (Finset.fold max ⊥ (fun k => msc 1 kb q k r) Finset.univ) := by
  have e : N1 q kb mx (ix2 0 r) = max (mx (ix2 0 r)) (Finset.fold max (Ideal.ofBits .f32 4286578688#32) (fun k => S1 q kb (ix2 k r)) Finset.univ) := by
    unfold N1
    pointwise [k0_pay60]
  rw [e, ninf]
  simp only [ds1]
/-- Head 1: the accumulators after the diagonal tile. -/
abbrev A1 : FVec Ideal S80x512 .f32 := k0_pay67 (F := Ideal) mx acc (S1 q kb) (N1 q kb mx) (k0_pay64 (k0_pay31 q) mx (k0_pay50 kb) (k0_pay51) (iota .tc S512x512 32 [1] iota_S512x512_d1_w32) 64#32 k0_pay52 k0_pay53 (Scalar.extui (Scalar.cmpi .sgt 64#32 0#32)) (Scalar.cmpi .slt 64#32 0#32)) vb
/-- Head 1: the new accumulator. -/
theorem da1 (d : Fin 80) (r : Fin 512) : A1 q kb mx acc vb (ix2 d r)
    = Ideal.exp2 (mx (ix2 0 r) - N1 q kb mx (ix2 0 r)) * acc (ix2 d r)
      + ∑ k, vb (ix4 0 0 d k) * Ideal.exp2 (msc 1 kb q k r - N1 q kb mx (ix2 0 r)) := by
  simp only [← ds1]
  unfold A1
  pointwise [k0_pay67, k0_pay64]
  rfl
/-- Head 2: the masked scores. -/
abbrev S2 : FVec Ideal S512x512 .f32 := k0_pay57 (F := Ideal) (k0_pay32 q) (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 2: the new maxima over the diagonal tile. -/
abbrev N2 : FVec Ideal S1x512 .f32 := k0_pay61 (F := Ideal) (k0_pay32 q) mx (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 2: a masked score. -/
theorem ds2 (k r : Fin 512) : S2 q kb (ix2 k r) = msc 2 kb q k r := by
  unfold S2
  pointwise [k0_pay57, k0_pay50, k0_pay32]
  rw [mask_at, mask_eq]
  unfold msc sc
  by_cases hc : k.val / 64 ≤ r.val / 64
  · rw [if_pos hc, if_pos hc]; rfl
  · rw [if_neg hc, if_neg hc]; rfl
/-- Head 2: the new maximum. -/
theorem dm2 (r : Fin 512) : N2 q kb mx (ix2 0 r)
    = max (mx (ix2 0 r)) (Finset.fold max ⊥ (fun k => msc 2 kb q k r) Finset.univ) := by
  have e : N2 q kb mx (ix2 0 r) = max (mx (ix2 0 r)) (Finset.fold max (Ideal.ofBits .f32 4286578688#32) (fun k => S2 q kb (ix2 k r)) Finset.univ) := by
    unfold N2
    pointwise [k0_pay61]
  rw [e, ninf]
  simp only [ds2]
/-- Head 2: the accumulators after the diagonal tile. -/
abbrev A2 : FVec Ideal S80x512 .f32 := k0_pay68 (F := Ideal) mx acc (S2 q kb) (N2 q kb mx) vb
/-- Head 2: the new accumulator. -/
theorem da2 (d : Fin 80) (r : Fin 512) : A2 q kb mx acc vb (ix2 d r)
    = Ideal.exp2 (mx (ix2 0 r) - N2 q kb mx (ix2 0 r)) * acc (ix2 d r)
      + ∑ k, vb (ix4 0 0 d k) * Ideal.exp2 (msc 2 kb q k r - N2 q kb mx (ix2 0 r)) := by
  simp only [← ds2]
  unfold A2
  pointwise [k0_pay68]
  rfl
/-- Head 3: the masked scores. -/
abbrev S3 : FVec Ideal S512x512 .f32 := k0_pay58 (F := Ideal) (k0_pay33 q) (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 3: the new maxima over the diagonal tile. -/
abbrev N3 : FVec Ideal S1x512 .f32 := k0_pay62 (F := Ideal) (k0_pay33 q) mx (k0_pay50 kb) (k0_pay51) (iota .tc S512x512 32 [1] iota_S512x512_d1_w32) 64#32 k0_pay52 k0_pay53 (Scalar.extui (Scalar.cmpi .sgt 64#32 0#32)) (Scalar.cmpi .slt 64#32 0#32)
/-- Head 3: a masked score. -/
theorem ds3 (k r : Fin 512) : S3 q kb (ix2 k r) = msc 3 kb q k r := by
  unfold S3
  pointwise [k0_pay58, k0_pay50, k0_pay33]
  rw [mask_at, mask_eq]
  unfold msc sc
  by_cases hc : k.val / 64 ≤ r.val / 64
  · rw [if_pos hc, if_pos hc]; rfl
  · rw [if_neg hc, if_neg hc]; rfl
/-- Head 3: the new maximum. -/
theorem dm3 (r : Fin 512) : N3 q kb mx (ix2 0 r)
    = max (mx (ix2 0 r)) (Finset.fold max ⊥ (fun k => msc 3 kb q k r) Finset.univ) := by
  have e : N3 q kb mx (ix2 0 r) = max (mx (ix2 0 r)) (Finset.fold max (Ideal.ofBits .f32 4286578688#32) (fun k => S3 q kb (ix2 k r)) Finset.univ) := by
    unfold N3
    pointwise [k0_pay62]
  rw [e, ninf]
  simp only [ds3]
/-- Head 3: the accumulators after the diagonal tile. -/
abbrev A3 : FVec Ideal S80x512 .f32 := addf (mulf (broadcastTo S80x512 (k0_pay69 (F := Ideal) mx (N3 q kb mx)) broadcasts_S1x512_S80x512) acc) (k0_pay65 (F := Ideal) (S3 q kb) (N3 q kb mx) vb)
/-- Head 3: the new accumulator. -/
theorem da3 (d : Fin 80) (r : Fin 512) : A3 q kb mx acc vb (ix2 d r)
    = Ideal.exp2 (mx (ix2 0 r) - N3 q kb mx (ix2 0 r)) * acc (ix2 d r)
      + ∑ k, vb (ix4 0 0 d k) * Ideal.exp2 (msc 3 kb q k r - N3 q kb mx (ix2 0 r)) := by
  simp only [← ds3]
  unfold A3
  pointwise [k0_pay69, k0_pay65]
  rfl

end Cert.AttnIdeal.Own
end
-- ==== Proof.AttnLoop.lean ====
/-  The attention kernel's loop over the tiles before the query's own, as a recursion of payloads over the blocks it loads. -/
module

public import proofs.«01_k».proof.Proof.AttnDiag
public import proofs.«01_k».proof.Proof.Gen.AttnIdeal.Value
public import Idealize.ShloMosaic.Lib.WholeRead

@[expose] public section
set_option maxRecDepth 16384
noncomputable section
open Idealize.ShloMosaic Idealize.ShloMosaic.TcCoe Idealize.SL.Sem
open Idealize.ShloMosaic.Pipeline (Dat)
namespace Cert.AttnIdeal.Own
open Cert.AttnIdeal Cert.AttnIdeal.Gen Cert.Own

/-- The key block of tile `j`. -/
def kblk (x1 : S1x4096x512.Idx → EReal) (j : Fin 8) : Vec Ideal S1x512x512 .bf16 := fun y =>
  x1 (ix3 0 ⟨512 * j.val + (y 1).val, by have := (y 1).isLt; have : S1x512x512.size 1 = 512 := rfl; omega⟩ (y 2))
/-- The value block of tile `j`, head `h`. -/
def vblk (x2 : S1x8x320x512.Idx → EReal) (h : Fin 4) (j : Fin 8) : Vec Ideal S1x1x80x512 .bf16 := fun y =>
  x2 (ix4 0 j ⟨80 * h.val + (y 2).val, by have := (y 2).isLt; have : S1x1x80x512.size 2 = 80 := rfl; omega⟩ (y 3))
/-- The queries of head `h`. -/
def qblk (x0 : S1x1x512x512.Idx → EReal) (h : Fin 4) : Vec Ideal S1x1x128x512 .bf16 := fun y =>
  x0 (ix4 0 0 ⟨128 * h.val + (y 2).val, by have := (y 2).isLt; have : S1x1x128x512.size 2 = 128 := rfl; omega⟩ (y 3))

/-- Where the loop's loads start. -/
theorem offs : ∀ t : Fin grid0.N, (k0_t1_loop (grid0.coords t)).trips = (grid0.coords t 1).val
    ∧ (k0_t2_loop (grid0.coords t)).trips = 0
    ∧ (∀ k : Fin (k0_t1_loop (grid0.coords t)).trips, k0_off1 (grid0.coords t) k = ![0, 512 * k.val, 0]
      ∧ k0_off2 (grid0.coords t) k = ![0, k.val, 0, 0] ∧ k0_off3 (grid0.coords t) k = ![0, k.val, 80, 0]
      ∧ k0_off4 (grid0.coords t) k = ![0, k.val, 160, 0] ∧ k0_off5 (grid0.coords t) k = ![0, k.val, 240, 0])
    ∧ k0_off11 (grid0.coords t) = ![0, 512 * (grid0.coords t 1).val, 0] ∧ k0_off12 (grid0.coords t) = ![0, (grid0.coords t 1).val, 0, 0]
    ∧ k0_off13 (grid0.coords t) = ![0, (grid0.coords t 1).val, 80, 0] ∧ k0_off14 (grid0.coords t) = ![0, (grid0.coords t 1).val, 160, 0]
    ∧ k0_off15 (grid0.coords t) = ![0, (grid0.coords t 1).val, 240, 0] := by decide +kernel

/-- A read of 512 keys is a key block. -/
theorem ld_k (x1 : S1x4096x512.Idx → EReal) (j : Fin 8) (off : Fin 3 → ℕ) (he : off = ![0, 512 * j.val, 0]) (inb : ∀ a, off a + S1x512x512.size a ≤ S1x4096x512.size a) :
    View.ld (Val := Elt Ideal) (e' := .bf16) x1 (Rect.unit (s := S1x4096x512) off S1x512x512.size inb) = kblk x1 j := by
  subst he
  funext y
  refine View.ld_unit_apply_of (Val := Elt Ideal) (e := .bf16) _ _ _ inb y _ fun a => ?_
  fin_cases a
  · exact (congrArg (0 + ·) (Nat.lt_one_iff.1 (y 0).isLt)).symm
  · rfl
  · exact (Nat.zero_add _).symm

/-- A load of 512 keys is a key block. -/
theorem load_k (arg3 : Memref sig .tc .vmem S1x4096x512 .bf16) (h3 : arg3.IsWhole) (x1 : S1x4096x512.Idx → EReal) (j : Fin 8)
    (off : Fin 3 → ℕ) (he : off = ![0, 512 * j.val, 0]) (inb : ∀ a, off a + S1x512x512.size a ≤ S1x4096x512.size a) :
    View.readAt (Elt Ideal) arg3.view (Rect.unit (s := S1x4096x512) off S1x512x512.size inb).toLoadRect (h3.unread (Val := Elt Ideal) x1) = kblk x1 j :=
  funext fun y => (Memref.IsWhole.readAt_unread ..).trans (congrFun (ld_k x1 j off he inb) y)

/-- A read of 80 rows of values is a value block. -/
theorem ld_v (x2 : S1x8x320x512.Idx → EReal) (h : Fin 4) (j : Fin 8) (off : Fin 4 → ℕ) (he : off = ![0, j.val, 80 * h.val, 0]) (inb : ∀ a, off a + S1x1x80x512.size a ≤ S1x8x320x512.size a) :
    View.ld (Val := Elt Ideal) (e' := .bf16) x2 (Rect.unit (s := S1x8x320x512) off S1x1x80x512.size inb) = vblk x2 h j := by
  subst he
  funext y
  refine View.ld_unit_apply_of (Val := Elt Ideal) (e := .bf16) _ _ _ inb y _ fun a => ?_
  fin_cases a
  · exact (congrArg (0 + ·) (Nat.lt_one_iff.1 (y 0).isLt)).symm
  · exact (congrArg (j.val + ·) (Nat.lt_one_iff.1 (y 1).isLt)).symm
  · rfl
  · exact (Nat.zero_add _).symm

/-- A load of 80 rows of values is a value block. -/
theorem load_v (arg4 : Memref sig .tc .vmem S1x8x320x512 .bf16) (h4 : arg4.IsWhole) (x2 : S1x8x320x512.Idx → EReal) (h : Fin 4) (j : Fin 8)
    (off : Fin 4 → ℕ) (he : off = ![0, j.val, 80 * h.val, 0]) (inb : ∀ a, off a + S1x1x80x512.size a ≤ S1x8x320x512.size a) :
    View.readAt (Elt Ideal) arg4.view (Rect.unit (s := S1x8x320x512) off S1x1x80x512.size inb).toLoadRect (h4.unread (Val := Elt Ideal) x2) = vblk x2 h j :=
  funext fun y => (Memref.IsWhole.readAt_unread ..).trans (congrFun (ld_v x2 h j off he inb) y)

/-- A read of 128 rows of queries is a head's queries. -/
theorem load_q (x0 : S1x1x512x512.Idx → EReal) (h : Fin 4)
    (off : Fin 4 → ℕ) (he : off = ![0, 0, 128 * h.val, 0]) (inb : ∀ a, off a + S1x1x128x512.size a ≤ S1x1x512x512.size a) :
    View.ld x0 (Rect.unit (s := S1x1x512x512) off S1x1x128x512.size inb) = qblk x0 h := by
  subst he
  funext y
  refine View.ld_unit_apply_of (Val := Elt Ideal) (e := .bf16) _ _ _ inb y _ fun a => ?_
  fin_cases a
  · exact (congrArg (0 + ·) (Nat.lt_one_iff.1 (y 0).isLt)).symm
  · exact (congrArg (0 + ·) (Nat.lt_one_iff.1 (y 1).isLt)).symm
  · rfl
  · exact (Nat.zero_add _).symm

/-- The carried state: per head the maxima and the accumulators. -/
abbrev St : Type := FVec Ideal S1x512 .f32 × FVec Ideal S80x512 .f32 × FVec Ideal S1x512 .f32 × FVec Ideal S80x512 .f32
  × FVec Ideal S1x512 .f32 × FVec Ideal S80x512 .f32 × FVec Ideal S1x512 .f32 × FVec Ideal S80x512 .f32

/-- One tile of the loop over blocks of queries, keys and values. -/
def tstep (q0 q1 q2 q3 : Vec Ideal S1x1x128x512 .bf16) (kb : Vec Ideal S1x512x512 .bf16) (vb : Fin 4 → Vec Ideal S1x1x80x512 .bf16) (a : St) : St :=
  (k0_pay7 (k0_pay30 q0) a.1 kb,
   k0_pay42 a.1 a.2.1 (k0_pay7 (k0_pay30 q0) a.1 kb) (k0_pay11 (k0_pay30 q0) a.1 kb) (k0_pay15 (vb 0)) (constant S80x512 .f32 0#32),
   k0_pay8 (k0_pay31 q1) a.2.2.1 kb,
   k0_pay43 a.2.2.1 a.2.2.2.1 (k0_pay8 (k0_pay31 q1) a.2.2.1 kb) (k0_pay12 (k0_pay31 q1) a.2.2.1 kb) (vb 1),
   k0_pay9 (k0_pay32 q2) a.2.2.2.2.1 kb,
   k0_pay44 a.2.2.2.2.1 a.2.2.2.2.2.1 (k0_pay9 (k0_pay32 q2) a.2.2.2.2.1 kb) (k0_pay13 (k0_pay32 q2) a.2.2.2.2.1 kb) (vb 2),
   k0_pay10 (k0_pay33 q3) a.2.2.2.2.2.2.1 kb,
   k0_pay45 a.2.2.2.2.2.2.1 a.2.2.2.2.2.2.2 (k0_pay10 (k0_pay33 q3) a.2.2.2.2.2.2.1 kb) (k0_pay14 (k0_pay33 q3) a.2.2.2.2.2.2.1 kb) (vb 3))

/-- The state before tile `n`. -/
def tst (q0 q1 q2 q3 : Vec Ideal S1x1x128x512 .bf16) (x1 : S1x4096x512.Idx → EReal) (x2 : S1x8x320x512.Idx → EReal) : ℕ → St
  | 0 => (k0_pay34, k0_pay35, k0_pay36, k0_pay37, k0_pay38, k0_pay39, k0_pay40, k0_pay41)
  | n + 1 => if h : n < 8 then tstep q0 q1 q2 q3 (kblk x1 ⟨n, h⟩) (fun a => vblk x2 a ⟨n, h⟩) (tst q0 q1 q2 q3 x1 x2 n) else tst q0 q1 q2 q3 x1 x2 n

variable (𝒱 : Variants) (c : Dev nD) (bd : Option 𝒱.V) (t : Fin grid0.N)
  (arg2 : Memref sig .tc .vmem S1x1x512x512 .bf16) (h2 : arg2.IsWhole) (arg3 : Memref sig .tc .vmem S1x4096x512 .bf16) (h3 : arg3.IsWhole)
  (arg4 : Memref sig .tc .vmem S1x8x320x512 .bf16) (h4 : arg4.IsWhole) (arg5 : Memref sig .tc .vmem S512x512 .bf16) (h5 : arg5.IsWhole)
  (q0 q1 q2 q3 : Vec Ideal S1x1x128x512 .bf16) (x1 : S1x4096x512.Idx → EReal) (x2 : S1x8x320x512.Idx → EReal)

/-- One trip of the loop is one tile. -/
theorem trip_eq (k : Fin (k0_t1_loop (grid0.coords t)).trips) (hk : k.val < 8) (a : St) :
    tripR_k0_t1 (F := Ideal) 𝒱 c bd (grid0.coords t) arg2 h2 arg3 h3 arg4 h4 arg5 h5 q0 q1 q2 q3 (h3.unread (Val := Elt Ideal) x1) (h4.unread (Val := Elt Ideal) x2) k a
      = tstep q0 q1 q2 q3 (kblk x1 ⟨k.val, hk⟩) (fun b => vblk x2 b ⟨k.val, hk⟩) a := by
  have o := (offs t).2.2.1 k
  unfold tstep; dsimp only
  rw [← load_k arg3 h3 x1 ⟨k.val, hk⟩ _ o.1 (k0_off1_inb _ k),
    ← load_v arg4 h4 x2 0 ⟨k.val, hk⟩ _ o.2.1 (k0_off2_inb _ k), ← load_v arg4 h4 x2 1 ⟨k.val, hk⟩ _ o.2.2.1 (k0_off3_inb _ k),
    ← load_v arg4 h4 x2 2 ⟨k.val, hk⟩ _ o.2.2.2.1 (k0_off4_inb _ k), ← load_v arg4 h4 x2 3 ⟨k.val, hk⟩ _ o.2.2.2.2 (k0_off5_inb _ k)]
  unfold tripR_k0_t1 trip_k0_t1
  rfl

/-- The loop's state before trip `n` is the state before tile `n`. -/
theorem st_eq (n : ℕ) (hn : n ≤ (grid0.coords t 1).val) :
    st_k0_t1 (F := Ideal) 𝒱 c bd (grid0.coords t) arg2 h2 arg3 h3 arg4 h4 arg5 h5 q0 q1 q2 q3 (h3.unread (Val := Elt Ideal) x1) (h4.unread (Val := Elt Ideal) x2)
      (k0_pay34, k0_pay35, k0_pay36, k0_pay37, k0_pay38, k0_pay39, k0_pay40, k0_pay41) n = tst q0 q1 q2 q3 x1 x2 n := by
  have h8 : (grid0.coords t 1).val < 8 := (grid0.coords t 1).isLt
  induction n with
  | zero => rfl
  | succ n ih =>
    have hk : n < (k0_t1_loop (grid0.coords t)).trips := by rw [(offs t).1]; omega
    refine (st_k0_t1_succ (F := Ideal) 𝒱 c bd (grid0.coords t) arg2 h2 arg3 h3 arg4 h4 arg5 h5 q0 q1 q2 q3 _ _ _ ⟨n, hk⟩).trans ?_
    rw [trip_eq 𝒱 c bd t arg2 h2 arg3 h3 arg4 h4 arg5 h5 q0 q1 q2 q3 x1 x2 ⟨n, hk⟩ (by show n < 8; omega)]
    rw [ih (by omega), tst, dif_pos (by omega : n < 8)]

end Cert.AttnIdeal.Own
end
-- ==== Proof.AttnOut.lean ====
/-  What the attention kernel's body writes at a grid point: the quotient of the accumulators, after the loop and the diagonal tile. -/
module

public import proofs.«01_k».proof.Proof.AttnLoop

@[expose] public section
set_option maxRecDepth 16384
noncomputable section
open Idealize.ShloMosaic Idealize.ShloMosaic.TcCoe Idealize.SL.Sem
open Idealize.ShloMosaic.Pipeline (Dat)
namespace Cert.AttnIdeal.Own
open Cert.AttnIdeal Cert.AttnIdeal.Gen Cert.Own

/-- The last lines over a state and the diagonal tile. -/
def lastOut (q0 q1 q2 q3 : Vec Ideal S1x1x128x512 .bf16) (kb : Vec Ideal S1x512x512 .bf16) (vb : Fin 4 → Vec Ideal S1x1x80x512 .bf16) (a : St) :
    FVec Ideal S512x512 .bf16 :=
  k0_pay1 (F := Ideal) a.2.2.2.2.2.2.2 (k0_pay65 (F := Ideal) (S3 q3 kb) (N3 q3 kb a.2.2.2.2.2.2.1) (vb 3)) (A0 q0 kb a.1 a.2.1 (vb 0))
    (A1 q1 kb a.2.2.1 a.2.2.2.1 (vb 1)) (A2 q2 kb a.2.2.2.2.1 a.2.2.2.2.2.1 (vb 2)) (k0_pay69 (F := Ideal) a.2.2.2.2.2.2.1 (N3 q3 kb a.2.2.2.2.2.2.1))

variable (m : (ℓ : Loc nD τ sig) → Buf (Elt Ideal) ℓ) (c : Dev nD) (t : Fin cfg0.N)

/-- What the body writes at point `t`. -/
theorem out_eq : outsAt0 m c t = lastOut (qblk (iblk m c 0 t) 0) (qblk (iblk m c 0 t) 1) (qblk (iblk m c 0 t) 2) (qblk (iblk m c 0 t) 3)
      (kblk (iblk m c 1 t) (grid0.coords t 1)) (fun a => vblk (iblk m c 2 t) a (grid0.coords t 1))
      (tst (qblk (iblk m c 0 t) 0) (qblk (iblk m c 0 t) 1) (qblk (iblk m c 0 t) 2) (qblk (iblk m c 0 t) 3) (iblk m c 1 t) (iblk m c 2 t) (grid0.coords t 1).val) := by
  unfold outsAt0
  frame_out
  have o := offs t
  rw [load_q (iblk m c 0 t) 0 ![0, 0, 0, 0] rfl, load_q (iblk m c 0 t) 1 ![0, 0, 128, 0] rfl, load_q (iblk m c 0 t) 2 ![0, 0, 256, 0] rfl,
    load_q (iblk m c 0 t) 3 ![0, 0, 384, 0] rfl]
  have e1 : Scf.trips 0#32 (k0_t1_loop (grid0.coords t)).ub 1#32 = (grid0.coords t 1).val := o.1
  dsimp only [k0_t1_loop] at e1
  rw [e1]
  have e2 : Scf.trips (k0_t2_loop (grid0.coords t)).lb (k0_t2_loop (grid0.coords t)).ub 1#32 = 0 := o.2.1
  dsimp only [k0_t2_loop] at e2
  rw [e2]
  simp only [st_k0_t2_zero]
  rw [st_eq Variants.none c none t _ _ _ _ _ _ _ _ _ _ _ _ _ _ (grid0.coords t 1).val le_rfl]
  rw [ld_k (iblk m c 1 t) (grid0.coords t 1) _ o.2.2.2.1, ld_v (iblk m c 2 t) 0 (grid0.coords t 1) _ o.2.2.2.2.1,
    ld_v (iblk m c 2 t) 1 (grid0.coords t 1) _ o.2.2.2.2.2.1, ld_v (iblk m c 2 t) 2 (grid0.coords t 1) _ o.2.2.2.2.2.2.1,
    ld_v (iblk m c 2 t) 3 (grid0.coords t 1) _ o.2.2.2.2.2.2.2]
  rfl

end Cert.AttnIdeal.Own
end
-- ==== Proof.AttnSpec.lean ====
/-  What an attention with chunk-causal mask computes from queries, keys and values as the kernel lays them out: the specification both
    programs are read against. No program is named here. -/
module

public import proofs.«01_k».proof.Proof.Flash

@[expose] public section
noncomputable section
open Idealize.ShloMosaic
namespace Cert.Own

/-- A product of reals, summed, is real. -/
theorem dot_fin {K : ℕ} (f g : Fin K → EReal) (hf : ∀ k, f k ≠ ⊤ ∧ f k ≠ ⊥) (hg : ∀ k, g k ≠ ⊤ ∧ g k ≠ ⊥) :
    ∑ k, f k * g k ≠ ⊤ ∧ ∑ k, f k * g k ≠ ⊥ := by
  have e : ∑ k, f k * g k = ((∑ k, (f k).toReal * (g k).toReal : ℝ) : EReal) := by
    rw [coe_sum]
    refine Finset.sum_congr rfl fun k _ => ?_
    rw [EReal.coe_mul, EReal.coe_toReal (hf k).1 (hf k).2, EReal.coe_toReal (hg k).1 (hg k).2]
  rw [e]
  exact ⟨EReal.coe_ne_top _, EReal.coe_ne_bot _⟩

/-- The score of key `κ` of batch `b` against query `q`, head `h`: the product of 128 lanes, the bottom where the key's chunk of 64 is
    after the query's. -/
def attnScore (qt : Fin 8 → Fin 8 → Fin 512 → Fin 512 → EReal) (kk : Fin 32768 → Fin 512 → EReal) (b : Fin 8) (h : Fin 4) (q κ : Fin 4096) : EReal :=
  if κ.val / 64 ≤ q.val / 64 then
    ∑ d : Fin 128, kk ⟨4096 * b.val + κ.val, by omega⟩ ⟨128 * h.val + d.val, by omega⟩
      * qt b ⟨q.val / 512, by omega⟩ ⟨128 * h.val + d.val, by omega⟩ ⟨q.val % 512, by omega⟩
  else ⊥

/-- The mean of values with weights two to the scores. -/
def attnMean (S : Fin 4096 → EReal) (v : Fin 4096 → EReal) : EReal :=
  (((∑ κ, (v κ).toReal * wt (S κ)) / ∑ κ, wt (S κ) : ℝ) : EReal)

/-- The attention at row `p`, lane `l`: batch `p / 4096`, query `p % 4096`, head `l / 128`, coordinate `l % 128`; zero past the 80
    coordinates a value has. -/
def attnAt (qt : Fin 8 → Fin 8 → Fin 512 → Fin 512 → EReal) (kk : Fin 32768 → Fin 512 → EReal)
    (vt : Fin 8 → Fin 8 → Fin 320 → Fin 512 → EReal) (p : Fin 32768) (l : Fin 512) : EReal :=
  if hd : l.val % 128 < 80 then
    attnMean (fun κ => attnScore qt kk ⟨p.val / 4096, by omega⟩ ⟨l.val / 128, by omega⟩ ⟨p.val % 4096, by omega⟩ κ)
      (fun κ => vt ⟨p.val / 4096, by omega⟩ ⟨κ.val / 512, by omega⟩ ⟨80 * (l.val / 128) + l.val % 128, by omega⟩ ⟨κ.val % 512, by omega⟩)
  else 0

end Cert.Own
end
-- ==== Proof.AttnState.lean ====
/-  The attention kernel's value: at each grid point the state of the loop is, head by head, the weighted sums over the keys met so far,
    so that what is written back is the attention of the specification. -/
module

public import proofs.«01_k».proof.Proof.AttnOut
public import proofs.«01_k».proof.Proof.AttnSpec

@[expose] public section
set_option maxRecDepth 16384
noncomputable section
open Idealize.ShloMosaic Idealize.ShloMosaic.TcCoe Idealize.SL.Sem
open Idealize.ShloMosaic.Pipeline (Dat)
namespace Cert.AttnIdeal.Own
open Cert.AttnIdeal Cert.AttnIdeal.Gen Cert.Own

variable (x0 : S1x1x512x512.Idx → EReal) (x1 : S1x4096x512.Idx → EReal) (x2 : S1x8x320x512.Idx → EReal)

/-- A score of tile `τ` is real where queries and keys are. -/
theorem sc_fin (h0 : ∀ y, x0 y ≠ ⊤ ∧ x0 y ≠ ⊥) (h1 : ∀ y, x1 y ≠ ⊤ ∧ x1 y ≠ ⊥) (h : Fin 4) (τ : Fin 8) (k r : Fin 512) :
    sc h (kblk x1 τ) (qblk x0 h) k r ≠ ⊤ ∧ sc h (kblk x1 τ) (qblk x0 h) k r ≠ ⊥ :=
  dot_fin _ _ (fun d => h1 _) (fun d => h0 _)

/-- The weighted values of the keys of tile `τ`, unmasked. -/
def tnum (h : Fin 4) (τ : Fin 8) (r : Fin 512) (d : Fin 80) : ℝ :=
  ∑ k : Fin 512, (vblk x2 h τ (ix4 0 0 d k)).toReal * wt (sc h (kblk x1 τ) (qblk x0 h) k r)

/-- The weighted values of the keys before tile `n`. -/
def num (h : Fin 4) : ℕ → Fin 512 → Fin 80 → ℝ
  | 0 => fun _ _ => 0
  | n + 1 => fun r d => num h n r d + if hn : n < 8 then tnum x0 x1 x2 h ⟨n, hn⟩ r d else 0

/-- One tile more. -/
theorem num_succ (h : Fin 4) (n : ℕ) (hn : n < 8) (r : Fin 512) (d : Fin 80) :
    num x0 x1 x2 h (n + 1) r d = num x0 x1 x2 h n r d + tnum x0 x1 x2 h ⟨n, hn⟩ r d := by
  show num x0 x1 x2 h n r d + (if hn : n < 8 then tnum x0 x1 x2 h ⟨n, hn⟩ r d else 0) = _
  rw [dif_pos hn]

/-- The weighted values of the keys of the query's own tile. -/
def dnum (h : Fin 4) (i : Fin 8) (r : Fin 512) (d : Fin 80) : ℝ :=
  ∑ k : Fin 512, (vblk x2 h i (ix4 0 0 d k)).toReal * wt (msc h (kblk x1 i) (qblk x0 h) k r)

/-- The score of a key against a query of tile `i`, in the block's arrays. -/
def bscore (h : Fin 4) (i : Fin 8) (r : Fin 512) (κ : Fin 4096) : EReal :=
  if κ.val / 64 ≤ (512 * i.val + r.val) / 64 then
    ∑ d : Fin 128, x1 (ix3 0 κ ⟨128 * h.val + d.val, by omega⟩) * x0 (ix4 0 0 ⟨128 * h.val + d.val, by omega⟩ r) else ⊥

/-- The sum over the tiles before `n` as a sum over all tiles. -/
theorem num_eq (h : Fin 4) (n : ℕ) (hn : n ≤ 8) (r : Fin 512) (d : Fin 80) :
    num x0 x1 x2 h n r d = ∑ τ : Fin 8, if τ.val < n then tnum x0 x1 x2 h τ r d else 0 := by
  induction n with
  | zero => simp [num]
  | succ n ih =>
    have hn' : n < 8 := by omega
    rw [num_succ x0 x1 x2 h n hn', ih (by omega)]
    have e : ∀ τ : Fin 8, (if τ.val < n + 1 then tnum x0 x1 x2 h τ r d else 0)
        = (if τ.val < n then tnum x0 x1 x2 h τ r d else 0) + if τ = ⟨n, hn'⟩ then tnum x0 x1 x2 h ⟨n, hn'⟩ r d else 0 := fun τ => by
      rcases lt_trichotomy τ.val n with hl | hl | hl
      · rw [if_pos (by omega), if_pos hl, if_neg (by intro hc; subst hc; exact lt_irrefl _ hl), add_zero]
      · have : τ = ⟨n, hn'⟩ := Fin.ext hl
        subst this
        rw [if_pos (by show n < n + 1; omega), if_neg (by show ¬ n < n; omega), if_pos rfl, zero_add]
      · rw [if_neg (by omega), if_neg (by omega), if_neg (by intro hc; subst hc; exact lt_irrefl _ hl), add_zero]
    rw [Finset.sum_congr rfl fun τ _ => e τ, Finset.sum_add_distrib, Finset.sum_ite_eq' Finset.univ, if_pos (Finset.mem_univ _)]

/-- Tiles before the query's own and its own diagonal together are all the keys, the masked ones weighing nothing. -/
theorem num_all (h : Fin 4) (i : Fin 8) (r : Fin 512) (d : Fin 80) :
    num x0 x1 x2 h i.val r d + dnum x0 x1 x2 h i r d = ∑ κ : Fin 4096,
      (x2 (ix4 0 ⟨κ.val / 512, by omega⟩ ⟨80 * h.val + d.val, by omega⟩ ⟨κ.val % 512, by omega⟩)).toReal * wt (bscore x0 x1 h i r κ) := by
  rw [num_eq x0 x1 x2 h i.val (by omega), Fin.sum_univ_tiles (N := 4096) 8 512 (by norm_num)]
  have e : dnum x0 x1 x2 h i r d = ∑ τ : Fin 8, if τ = i then dnum x0 x1 x2 h i r d else 0 := by
    rw [Finset.sum_ite_eq' Finset.univ, if_pos (Finset.mem_univ _)]
  rw [e, ← Finset.sum_add_distrib]
  refine Finset.sum_congr rfl fun τ _ => ?_
  have hv : ∀ k : Fin 512, x2 (ix4 0 ⟨(τ.val * 512 + k.val) / 512, by omega⟩ ⟨80 * h.val + d.val, by omega⟩ ⟨(τ.val * 512 + k.val) % 512, by omega⟩)
      = vblk x2 h τ (ix4 0 0 d k) := fun k => by
    show _ = x2 (ix4 0 τ ⟨80 * h.val + d.val, _⟩ k)
    congr 1
    have e1 : (⟨(τ.val * 512 + k.val) / 512, by omega⟩ : Fin 8) = τ := Fin.ext (by show (τ.val * 512 + k.val) / 512 = τ.val; omega)
    have e2 : (⟨(τ.val * 512 + k.val) % 512, by omega⟩ : Fin 512) = k := Fin.ext (by show (τ.val * 512 + k.val) % 512 = k.val; omega)
    rw [e1, e2]
  have hs : ∀ k : Fin 512, (∑ d : Fin 128, x1 (ix3 0 (⟨τ.val * 512 + k.val, by omega⟩ : Fin 4096) ⟨128 * h.val + d.val, by omega⟩)
      * x0 (ix4 0 0 ⟨128 * h.val + d.val, by omega⟩ r)) = sc h (kblk x1 τ) (qblk x0 h) k r := fun k => by
    refine Finset.sum_congr rfl fun d _ => ?_
    show x1 (ix3 0 (⟨τ.val * 512 + k.val, _⟩ : Fin 4096) _) * _ = x1 (ix3 0 (⟨512 * τ.val + k.val, _⟩ : Fin 4096) _) * _
    have e1 : (⟨τ.val * 512 + k.val, by omega⟩ : Fin 4096) = ⟨512 * τ.val + k.val, by omega⟩ := Fin.ext (by show τ.val * 512 + k.val = 512 * τ.val + k.val; omega)
    rw [e1]; rfl
  rcases lt_trichotomy τ i with hl | hl | hl
  · rw [if_pos (show τ.val < i.val from hl), if_neg hl.ne, add_zero]
    unfold tnum
    refine Finset.sum_congr rfl fun k _ => ?_
    have hl' : τ.val < i.val := hl
    rw [hv, bscore, if_pos (by show (τ.val * 512 + k.val) / 64 ≤ _; omega), hs]
  · subst hl
    rw [if_neg (lt_irrefl _), if_pos rfl, zero_add]
    unfold dnum
    refine Finset.sum_congr rfl fun k _ => ?_
    rw [hv, bscore, msc]
    by_cases hc : k.val / 64 ≤ r.val / 64
    · rw [if_pos hc, if_pos (by show (τ.val * 512 + k.val) / 64 ≤ _; omega), hs]
    · rw [if_neg hc, if_neg (by show ¬ (τ.val * 512 + k.val) / 64 ≤ _; omega)]
  · have hl' : i.val < τ.val := hl
    rw [if_neg (by omega), if_neg hl.ne', zero_add]
    refine (Finset.sum_eq_zero fun k _ => ?_).symm
    rw [bscore, if_neg (by show ¬ (τ.val * 512 + k.val) / 64 ≤ _; omega), wt_bot, mul_zero]

/-- A masked score is never the top. -/
theorem msc_ne_top (h0 : ∀ y, x0 y ≠ ⊤ ∧ x0 y ≠ ⊥) (h1 : ∀ y, x1 y ≠ ⊤ ∧ x1 y ≠ ⊥) (h : Fin 4) (i : Fin 8) (k r : Fin 512) :
    msc h (kblk x1 i) (qblk x0 h) k r ≠ ⊤ := by
  unfold msc
  split
  · exact (sc_fin x0 x1 h0 h1 h i k r).1
  · exact bot_ne_top

/-- Head 0: the loop's state before tile `n`. -/
theorem st0 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (n : ℕ) (hn : n ≤ 8) :
    HRun (tst (qblk x0 0) (qblk x0 1) (qblk x0 2) (qblk x0 3) x1 x2 n).1 (tst (qblk x0 0) (qblk x0 1) (qblk x0 2) (qblk x0 3) x1 x2 n).2.1 (num x0 x1 x2 0 n) := by
  induction n with
  | zero =>
    intro r
    have e1 : (tst (qblk x0 0) (qblk x0 1) (qblk x0 2) (qblk x0 3) x1 x2 0).1 (ix2 0 r) = ⊥ := by
      show k0_pay34 (F := Ideal) (ix2 0 r) = ⊥
      pointwise [k0_pay34]
      exact mask_eq
    have e2 : (fun d => (tst (qblk x0 0) (qblk x0 1) (qblk x0 2) (qblk x0 3) x1 x2 0).2.1 (ix2 d r)) = fun _ => 0 := by
      funext d
      show k0_pay35 (F := Ideal) (ix2 d r) = 0
      pointwise [k0_pay35]
    rw [e1, e2]
    exact Run.start
  | succ n ih =>
    have hn' : n < 8 := by omega
    have e : tst (qblk x0 0) (qblk x0 1) (qblk x0 2) (qblk x0 3) x1 x2 (n + 1) = tstep (qblk x0 0) (qblk x0 1) (qblk x0 2) (qblk x0 3) (kblk x1 ⟨n, hn'⟩) (fun a => vblk x2 a ⟨n, hn'⟩) (tst (qblk x0 0) (qblk x0 1) (qblk x0 2) (qblk x0 3) x1 x2 n) := by
      rw [tst, dif_pos hn']
    rw [e]
    have en : num x0 x1 x2 0 (n + 1) = fun r d => num x0 x1 x2 0 n r d + ∑ k : Fin 512,
        (vblk x2 0 ⟨n, hn'⟩ (ix4 0 0 d k)).toReal * wt (sc 0 (kblk x1 ⟨n, hn'⟩) (qblk x0 0) k r) := by
      funext r d
      exact num_succ x0 x1 x2 0 n hn' r d
    rw [en]
    exact (ih (by omega)).step (fun k r => sc 0 (kblk x1 ⟨n, hn'⟩) (qblk x0 0) k r) (fun k r => (sc_fin x0 x1 h0 h1 0 ⟨n, hn'⟩ k r).1)
      (fun r => ⟨r, (sc_fin x0 x1 h0 h1 0 ⟨n, hn'⟩ r r).2⟩) (fun d k => vblk x2 0 ⟨n, hn'⟩ (ix4 0 0 d k)) (fun d k => h2 _) _ _
      (fun r => m0 _ _ _ r) (fun d r => a0 _ _ _ _ _ d r)

/-- Head 0: the state after the query's own tile. -/
theorem en0 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (i : Fin 8) :
    HRun (N0 (qblk x0 0) (kblk x1 i) (tst (qblk x0 0) (qblk x0 1) (qblk x0 2) (qblk x0 3) x1 x2 i.val).1)
      (A0 (qblk x0 0) (kblk x1 i) (tst (qblk x0 0) (qblk x0 1) (qblk x0 2) (qblk x0 3) x1 x2 i.val).1 (tst (qblk x0 0) (qblk x0 1) (qblk x0 2) (qblk x0 3) x1 x2 i.val).2.1 (vblk x2 0 i))
      (fun r d => num x0 x1 x2 0 i.val r d + dnum x0 x1 x2 0 i r d) :=
  (st0 x0 x1 x2 h0 h1 h2 i.val (by omega)).step (fun k r => msc 0 (kblk x1 i) (qblk x0 0) k r)
    (fun k r => msc_ne_top x0 x1 h0 h1 0 i k r) (fun r => ⟨r, by rw [msc, if_pos le_rfl]; exact (sc_fin x0 x1 h0 h1 0 i r r).2⟩)
    (fun d k => vblk x2 0 i (ix4 0 0 d k)) (fun d k => h2 _) _ _ (fun r => dm0 _ _ _ r) (fun d r => da0 _ _ _ _ _ d r)

/-- Head 1: the loop's state before tile `n`. -/
theorem st1 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (n : ℕ) (hn : n ≤ 8) :
    HRun (tst (qblk x0 0) (qblk x0 1) (qblk x0 2) (qblk x0 3) x1 x2 n).2.2.1 (tst (qblk x0 0) (qblk x0 1) (qblk x0 2) (qblk x0 3) x1 x2 n).2.2.2.1 (num x0 x1 x2 1 n) := by
  induction n with
  | zero =>
    intro r
    have e1 : (tst (qblk x0 0) (qblk x0 1) (qblk x0 2) (qblk x0 3) x1 x2 0).2.2.1 (ix2 0 r) = ⊥ := by
      show k0_pay36 (F := Ideal) (ix2 0 r) = ⊥
      pointwise [k0_pay36]
      exact mask_eq
    have e2 : (fun d => (tst (qblk x0 0) (qblk x0 1) (qblk x0 2) (qblk x0 3) x1 x2 0).2.2.2.1 (ix2 d r)) = fun _ => 0 := by
      funext d
      show k0_pay37 (F := Ideal) (ix2 d r) = 0
      pointwise [k0_pay37]
    rw [e1, e2]
    exact Run.start
  | succ n ih =>
    have hn' : n < 8 := by omega
    have e : tst (qblk x0 0) (qblk x0 1) (qblk x0 2) (qblk x0 3) x1 x2 (n + 1) = tstep (qblk x0 0) (qblk x0 1) (qblk x0 2) (qblk x0 3) (kblk x1 ⟨n, hn'⟩) (fun a => vblk x2 a ⟨n, hn'⟩) (tst (qblk x0 0) (qblk x0 1) (qblk x0 2) (qblk x0 3) x1 x2 n) := by
      rw [tst, dif_pos hn']
    rw [e]
    have en : num x0 x1 x2 1 (n + 1) = fun r d => num x0 x1 x2 1 n r d + ∑ k : Fin 512,
        (vblk x2 1 ⟨n, hn'⟩ (ix4 0 0 d k)).toReal * wt (sc 1 (kblk x1 ⟨n, hn'⟩) (qblk x0 1) k r) := by
      funext r d
      exact num_succ x0 x1 x2 1 n hn' r d
    rw [en]
    exact (ih (by omega)).step (fun k r => sc 1 (kblk x1 ⟨n, hn'⟩) (qblk x0 1) k r) (fun k r => (sc_fin x0 x1 h0 h1 1 ⟨n, hn'⟩ k r).1)
      (fun r => ⟨r, (sc_fin x0 x1 h0 h1 1 ⟨n, hn'⟩ r r).2⟩) (fun d k => vblk x2 1 ⟨n, hn'⟩ (ix4 0 0 d k)) (fun d k => h2 _) _ _
      (fun r => m1 _ _ _ r) (fun d r => a1 _ _ _ _ _ d r)

/-- Head 1: the state after the query's own tile. -/
theorem en1 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (i : Fin 8) :
    HRun (N1 (qblk x0 1) (kblk x1 i) (tst (qblk x0 0) (qblk x0 1) (qblk x0 2) (qblk x0 3) x1 x2 i.val).2.2.1)
      (A1 (qblk x0 1) (kblk x1 i) (tst (qblk x0 0) (qblk x0 1) (qblk x0 2) (qblk x0 3) x1 x2 i.val).2.2.1 (tst (qblk x0 0) (qblk x0 1) (qblk x0 2) (qblk x0 3) x1 x2 i.val).2.2.2.1 (vblk x2 1 i))
      (fun r d => num x0 x1 x2 1 i.val r d + dnum x0 x1 x2 1 i r d) :=
  (st1 x0 x1 x2 h0 h1 h2 i.val (by omega)).step (fun k r => msc 1 (kblk x1 i) (qblk x0 1) k r)
    (fun k r => msc_ne_top x0 x1 h0 h1 1 i k r) (fun r => ⟨r, by rw [msc, if_pos le_rfl]; exact (sc_fin x0 x1 h0 h1 1 i r r).2⟩)
    (fun d k => vblk x2 1 i (ix4 0 0 d k)) (fun d k => h2 _) _ _ (fun r => dm1 _ _ _ r) (fun d r => da1 _ _ _ _ _ d r)

/-- Head 2: the loop's state before tile `n`. -/
theorem st2 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (n : ℕ) (hn : n ≤ 8) :
    HRun (tst (qblk x0 0) (qblk x0 1) (qblk x0 2) (qblk x0 3) x1 x2 n).2.2.2.2.1 (tst (qblk x0 0) (qblk x0 1) (qblk x0 2) (qblk x0 3) x1 x2 n).2.2.2.2.2.1 (num x0 x1 x2 2 n) := by
  induction n with
  | zero =>
    intro r
    have e1 : (tst (qblk x0 0) (qblk x0 1) (qblk x0 2) (qblk x0 3) x1 x2 0).2.2.2.2.1 (ix2 0 r) = ⊥ := by
      show k0_pay38 (F := Ideal) (ix2 0 r) = ⊥
      pointwise [k0_pay38]
      exact mask_eq
    have e2 : (fun d => (tst (qblk x0 0) (qblk x0 1) (qblk x0 2) (qblk x0 3) x1 x2 0).2.2.2.2.2.1 (ix2 d r)) = fun _ => 0 := by
      funext d
      show k0_pay39 (F := Ideal) (ix2 d r) = 0
      pointwise [k0_pay39]
    rw [e1, e2]
    exact Run.start
  | succ n ih =>
    have hn' : n < 8 := by omega
    have e : tst (qblk x0 0) (qblk x0 1) (qblk x0 2) (qblk x0 3) x1 x2 (n + 1) = tstep (qblk x0 0) (qblk x0 1) (qblk x0 2) (qblk x0 3) (kblk x1 ⟨n, hn'⟩) (fun a => vblk x2 a ⟨n, hn'⟩) (tst (qblk x0 0) (qblk x0 1) (qblk x0 2) (qblk x0 3) x1 x2 n) := by
      rw [tst, dif_pos hn']
    rw [e]
    have en : num x0 x1 x2 2 (n + 1) = fun r d => num x0 x1 x2 2 n r d + ∑ k : Fin 512,
        (vblk x2 2 ⟨n, hn'⟩ (ix4 0 0 d k)).toReal * wt (sc 2 (kblk x1 ⟨n, hn'⟩) (qblk x0 2) k r) := by
      funext r d
      exact num_succ x0 x1 x2 2 n hn' r d
    rw [en]
    exact (ih (by omega)).step (fun k r => sc 2 (kblk x1 ⟨n, hn'⟩) (qblk x0 2) k r) (fun k r => (sc_fin x0 x1 h0 h1 2 ⟨n, hn'⟩ k r).1)
      (fun r => ⟨r, (sc_fin x0 x1 h0 h1 2 ⟨n, hn'⟩ r r).2⟩) (fun d k => vblk x2 2 ⟨n, hn'⟩ (ix4 0 0 d k)) (fun d k => h2 _) _ _
      (fun r => m2 _ _ _ r) (fun d r => a2 _ _ _ _ _ d r)

/-- Head 2: the state after the query's own tile. -/
theorem en2 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (i : Fin 8) :
    HRun (N2 (qblk x0 2) (kblk x1 i) (tst (qblk x0 0) (qblk x0 1) (qblk x0 2) (qblk x0 3) x1 x2 i.val).2.2.2.2.1)
      (A2 (qblk x0 2) (kblk x1 i) (tst (qblk x0 0) (qblk x0 1) (qblk x0 2) (qblk x0 3) x1 x2 i.val).2.2.2.2.1 (tst (qblk x0 0) (qblk x0 1) (qblk x0 2) (qblk x0 3) x1 x2 i.val).2.2.2.2.2.1 (vblk x2 2 i))
      (fun r d => num x0 x1 x2 2 i.val r d + dnum x0 x1 x2 2 i r d) :=
  (st2 x0 x1 x2 h0 h1 h2 i.val (by omega)).step (fun k r => msc 2 (kblk x1 i) (qblk x0 2) k r)
    (fun k r => msc_ne_top x0 x1 h0 h1 2 i k r) (fun r => ⟨r, by rw [msc, if_pos le_rfl]; exact (sc_fin x0 x1 h0 h1 2 i r r).2⟩)
    (fun d k => vblk x2 2 i (ix4 0 0 d k)) (fun d k => h2 _) _ _ (fun r => dm2 _ _ _ r) (fun d r => da2 _ _ _ _ _ d r)

/-- Head 3: the loop's state before tile `n`. -/
theorem st3 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (n : ℕ) (hn : n ≤ 8) :
    HRun (tst (qblk x0 0) (qblk x0 1) (qblk x0 2) (qblk x0 3) x1 x2 n).2.2.2.2.2.2.1 (tst (qblk x0 0) (qblk x0 1) (qblk x0 2) (qblk x0 3) x1 x2 n).2.2.2.2.2.2.2 (num x0 x1 x2 3 n) := by
  induction n with
  | zero =>
    intro r
    have e1 : (tst (qblk x0 0) (qblk x0 1) (qblk x0 2) (qblk x0 3) x1 x2 0).2.2.2.2.2.2.1 (ix2 0 r) = ⊥ := by
      show k0_pay40 (F := Ideal) (ix2 0 r) = ⊥
      pointwise [k0_pay40]
      exact mask_eq
    have e2 : (fun d => (tst (qblk x0 0) (qblk x0 1) (qblk x0 2) (qblk x0 3) x1 x2 0).2.2.2.2.2.2.2 (ix2 d r)) = fun _ => 0 := by
      funext d
      show k0_pay41 (F := Ideal) (ix2 d r) = 0
      pointwise [k0_pay41]
    rw [e1, e2]
    exact Run.start
  | succ n ih =>
    have hn' : n < 8 := by omega
    have e : tst (qblk x0 0) (qblk x0 1) (qblk x0 2) (qblk x0 3) x1 x2 (n + 1) = tstep (qblk x0 0) (qblk x0 1) (qblk x0 2) (qblk x0 3) (kblk x1 ⟨n, hn'⟩) (fun a => vblk x2 a ⟨n, hn'⟩) (tst (qblk x0 0) (qblk x0 1) (qblk x0 2) (qblk x0 3) x1 x2 n) := by
      rw [tst, dif_pos hn']
    rw [e]
    have en : num x0 x1 x2 3 (n + 1) = fun r d => num x0 x1 x2 3 n r d + ∑ k : Fin 512,
        (vblk x2 3 ⟨n, hn'⟩ (ix4 0 0 d k)).toReal * wt (sc 3 (kblk x1 ⟨n, hn'⟩) (qblk x0 3) k r) := by
      funext r d
      exact num_succ x0 x1 x2 3 n hn' r d
    rw [en]
    exact (ih (by omega)).step (fun k r => sc 3 (kblk x1 ⟨n, hn'⟩) (qblk x0 3) k r) (fun k r => (sc_fin x0 x1 h0 h1 3 ⟨n, hn'⟩ k r).1)
      (fun r => ⟨r, (sc_fin x0 x1 h0 h1 3 ⟨n, hn'⟩ r r).2⟩) (fun d k => vblk x2 3 ⟨n, hn'⟩ (ix4 0 0 d k)) (fun d k => h2 _) _ _
      (fun r => m3 _ _ _ r) (fun d r => a3 _ _ _ _ _ d r)

/-- Head 3: the state after the query's own tile. -/
theorem en3 (h0 : ∀ y, x0 y ≠ ⊤ ∧ x0 y ≠ ⊥) (h1 : ∀ y, x1 y ≠ ⊤ ∧ x1 y ≠ ⊥) (h2 : ∀ y, x2 y ≠ ⊤ ∧ x2 y ≠ ⊥) (i : Fin 8) :
    HRun (N3 (qblk x0 3) (kblk x1 i) (tst (qblk x0 0) (qblk x0 1) (qblk x0 2) (qblk x0 3) x1 x2 i.val).2.2.2.2.2.2.1)
      (A3 (qblk x0 3) (kblk x1 i) (tst (qblk x0 0) (qblk x0 1) (qblk x0 2) (qblk x0 3) x1 x2 i.val).2.2.2.2.2.2.1 (tst (qblk x0 0) (qblk x0 1) (qblk x0 2) (qblk x0 3) x1 x2 i.val).2.2.2.2.2.2.2 (vblk x2 3 i))
      (fun r d => num x0 x1 x2 3 i.val r d + dnum x0 x1 x2 3 i r d) :=
  (st3 x0 x1 x2 h0 h1 h2 i.val (by omega)).step (fun k r => msc 3 (kblk x1 i) (qblk x0 3) k r)
    (fun k r => msc_ne_top x0 x1 h0 h1 3 i k r) (fun r => ⟨r, by rw [msc, if_pos le_rfl]; exact (sc_fin x0 x1 h0 h1 3 i r r).2⟩)
    (fun d k => vblk x2 3 i (ix4 0 0 d k)) (fun d k => h2 _) _ _ (fun r => dm3 _ _ _ r) (fun d r => da3 _ _ _ _ _ d r)

end Cert.AttnIdeal.Own
end
-- ==== Proof.AttnValue.lean ====
/-  The attention kernel's result is the attention of the specification, where queries, keys and values are finite and each head's value
    row 64 is the row of ones. -/
module

public import proofs.«01_k».proof.Proof.AttnState
public import proofs.«01_k».proof.Proof.Gen.AttnIdeal.Value

@[expose] public section
set_option maxRecDepth 16384
noncomputable section
open Idealize.ShloMosaic Idealize.ShloMosaic.TcCoe Idealize.SL.Sem
open Idealize.ShloMosaic.Pipeline (Dat)
namespace Cert.AttnIdeal.Own
open Cert.AttnIdeal Cert.AttnIdeal.Gen Cert.Own

/-- The last lines at an index: each head's accumulator over its row 64, zero past the 80 rows. -/
theorem pay1_at (x y v0 v1 v2 : FVec Ideal S80x512 .f32) (z : FVec Ideal S1x512 .f32) (r l : Fin 512) :
    k0_pay1 (F := Ideal) x y v0 v1 v2 z (ix2 r l)
      = if l.val < 128 then if h : l.val < 80 then Ideal.div (v0 (ix2 ⟨l.val, by omega⟩ r)) (v0 (ix2 64 r)) else 0
        else if l.val - 128 < 128 then if h : l.val - 128 < 80 then Ideal.div (v1 (ix2 ⟨l.val - 128, by omega⟩ r)) (v1 (ix2 64 r)) else 0
        else if l.val - 128 - 128 < 128 then
          if h : l.val - 128 - 128 < 80 then Ideal.div (v2 (ix2 ⟨l.val - 128 - 128, by omega⟩ r)) (v2 (ix2 64 r)) else 0
        else if h : l.val - 128 - 128 - 128 < 80 then
            Ideal.div (z (ix2 0 r) * x (ix2 ⟨l.val - 128 - 128 - 128, by omega⟩ r) + y (ix2 ⟨l.val - 128 - 128 - 128, by omega⟩ r))
              (z (ix2 0 r) * x (ix2 64 r) + y (ix2 64 r))
          else 0 := by
  pointwise [k0_pay1]
  rfl

/-- The last head's rescaled accumulator at an index. -/
theorem acc3_at (z : FVec Ideal S1x512 .f32) (x y : FVec Ideal S80x512 .f32) (d : Fin 80) (r : Fin 512) :
    addf (mulf (broadcastTo S80x512 z broadcasts_S1x512_S80x512) x) y (ix2 d r) = z (ix2 0 r) * x (ix2 d r) + y (ix2 d r) := by
  pointwise

section blocks
variable (x0 : S1x1x512x512.Idx → EReal) (x1 : S1x4096x512.Idx → EReal) (x2 : S1x8x320x512.Idx → EReal)
  (h0 : ∀ y, x0 y ≠ ⊤ ∧ x0 y ≠ ⊥) (h1 : ∀ y, x1 y ≠ ⊤ ∧ x1 y ≠ ⊥) (h2 : ∀ y, x2 y ≠ ⊤ ∧ x2 y ≠ ⊥)
  (hone : ∀ (h : Fin 4) (j : Fin 8) (k : Fin 512), x2 (ix4 0 j ⟨80 * h.val + 64, by omega⟩ k) = 1)

/-- A head's mean of values at a query, in the block's arrays. -/
def bmean (i : Fin 8) (r : Fin 512) (h : Fin 4) (d : Fin 80) : EReal :=
  attnMean (bscore x0 x1 h i r) (fun κ => x2 (ix4 0 ⟨κ.val / 512, by omega⟩ ⟨80 * h.val + d.val, by omega⟩ ⟨κ.val % 512, by omega⟩))

include h0 h1 in
/-- The weights of a query's keys do not sum to zero: its own key is seen. -/
theorem wsum_ne (i : Fin 8) (r : Fin 512) (h : Fin 4) : ∑ κ, wt (bscore x0 x1 h i r κ) ≠ 0 := by
  refine ne_of_gt (Finset.sum_pos' (fun κ _ => wt_nonneg _) ⟨⟨512 * i.val + r.val, by omega⟩, Finset.mem_univ _, ?_⟩)
  rw [bscore, if_pos le_rfl]
  have hf := dot_fin (fun d : Fin 128 => x1 (ix3 0 (⟨512 * i.val + r.val, by omega⟩ : Fin 4096) ⟨128 * h.val + d.val, by omega⟩))
    (fun d : Fin 128 => x0 (ix4 0 0 ⟨128 * h.val + d.val, by omega⟩ r)) (fun d => h1 _) (fun d => h0 _)
  rw [← EReal.coe_toReal hf.1 hf.2, wt_coe]
  positivity

include h0 h1 hone in
/-- The quotient of a head's accumulators after the last tile is the mean of its values. -/
theorem mean_of (i : Fin 8) (r : Fin 512) (h : Fin 4) (mx : FVec Ideal S1x512 .f32) (acc : FVec Ideal S80x512 .f32)
    (hr : HRun mx acc (fun r d => num x0 x1 x2 h i.val r d + dnum x0 x1 x2 h i r d)) (d : Fin 80) :
    Ideal.div (acc (ix2 d r)) (acc (ix2 64 r)) = bmean x0 x1 x2 i r h d := by
  have e64 : num x0 x1 x2 h i.val r 64 + dnum x0 x1 x2 h i r 64 = ∑ κ, wt (bscore x0 x1 h i r κ) := by
    rw [num_all]
    refine Finset.sum_congr rfl fun κ _ => ?_
    rw [show x2 (ix4 0 ⟨κ.val / 512, by omega⟩ ⟨80 * h.val + (64 : Fin 80).val, by omega⟩ ⟨κ.val % 512, by omega⟩) = 1 from hone h _ _,
      EReal.toReal_one, one_mul]
  refine ((hr r).done (64 : Fin 80) d (by show num x0 x1 x2 h i.val r 64 + dnum x0 x1 x2 h i r 64 ≠ 0; rw [e64]; exact wsum_ne x0 x1 h0 h1 i r h)).trans ?_
  show ((((num x0 x1 x2 h i.val r d + dnum x0 x1 x2 h i r d) / (num x0 x1 x2 h i.val r 64 + dnum x0 x1 x2 h i r 64) : ℝ)) : EReal) = _
  rw [e64, num_all]
  rfl

include h0 h1 h2 hone in
/-- What is written at a grid point, at an index. -/
theorem last_at (i : Fin 8) (r l : Fin 512) :
    lastOut (qblk x0 0) (qblk x0 1) (qblk x0 2) (qblk x0 3) (kblk x1 i) (fun a => vblk x2 a i)
        (tst (qblk x0 0) (qblk x0 1) (qblk x0 2) (qblk x0 3) x1 x2 i.val) (ix2 r l)
      = if hd : l.val % 128 < 80 then bmean x0 x1 x2 i r ⟨l.val / 128, by omega⟩ ⟨l.val % 128, hd⟩ else 0 := by
  have key : ∀ (h h' : Fin 4) (d d' : Fin 80), h.val = h'.val → d.val = d'.val → bmean x0 x1 x2 i r h d = bmean x0 x1 x2 i r h' d' :=
    fun h h' d d' e1 e2 => by rw [Fin.ext e1, Fin.ext e2]
  unfold lastOut
  rw [pay1_at]
  by_cases c0 : l.val < 128
  · rw [if_pos c0]
    by_cases hd : l.val < 80
    · rw [dif_pos hd, dif_pos (by omega : l.val % 128 < 80), mean_of x0 x1 x2 h0 h1 hone i r 0 _ _ (en0 x0 x1 x2 h0 h1 h2 i)]
      exact key _ _ _ _ (by show 0 = l.val / 128; omega) (by show l.val = l.val % 128; omega)
    · rw [dif_neg hd, dif_neg (by omega)]
  rw [if_neg c0]
  by_cases c1 : l.val - 128 < 128
  · rw [if_pos c1]
    by_cases hd : l.val - 128 < 80
    · rw [dif_pos hd, dif_pos (by omega : l.val % 128 < 80), mean_of x0 x1 x2 h0 h1 hone i r 1 _ _ (en1 x0 x1 x2 h0 h1 h2 i)]
      exact key _ _ _ _ (by show 1 = l.val / 128; omega) (by show l.val - 128 = l.val % 128; omega)
    · rw [dif_neg hd, dif_neg (by omega)]
  rw [if_neg c1]
  by_cases c2 : l.val - 128 - 128 < 128
  · rw [if_pos c2]
    by_cases hd : l.val - 128 - 128 < 80
    · rw [dif_pos hd, dif_pos (by omega : l.val % 128 < 80), mean_of x0 x1 x2 h0 h1 hone i r 2 _ _ (en2 x0 x1 x2 h0 h1 h2 i)]
      exact key _ _ _ _ (by show 2 = l.val / 128; omega) (by show l.val - 128 - 128 = l.val % 128; omega)
    · rw [dif_neg hd, dif_neg (by omega)]
  rw [if_neg c2]
  by_cases hd : l.val - 128 - 128 - 128 < 80
  · rw [dif_pos hd, dif_pos (by omega : l.val % 128 < 80)]
    rw [← acc3_at, ← acc3_at]
    refine (mean_of x0 x1 x2 h0 h1 hone i r 3 _ _ (en3 x0 x1 x2 h0 h1 h2 i) ⟨l.val - 128 - 128 - 128, by omega⟩).trans ?_
    exact key _ _ _ _ (by show 3 = l.val / 128; omega) (by show l.val - 128 - 128 - 128 = l.val % 128; omega)
  · rw [dif_neg hd, dif_neg (by omega)]

/-- The block's mean is the specification's, where the block holds the arrays' entries. -/
theorem glue (qt : Fin 8 → Fin 8 → Fin 512 → Fin 512 → EReal) (kk : Fin 32768 → Fin 512 → EReal) (vt : Fin 8 → Fin 8 → Fin 320 → Fin 512 → EReal)
    (b i : Fin 8) (r l : Fin 512) (p : Fin 32768) (hp : p.val = 4096 * b.val + 512 * i.val + r.val)
    (e0 : ∀ a, x0 (ix4 0 0 a r) = qt b i a r) (e1 : ∀ (κ : Fin 4096) a, x1 (ix3 0 κ a) = kk ⟨4096 * b.val + κ.val, by omega⟩ a)
    (e2 : ∀ j a k, x2 (ix4 0 j a k) = vt b j a k) :
    (if hd : l.val % 128 < 80 then bmean x0 x1 x2 i r ⟨l.val / 128, by omega⟩ ⟨l.val % 128, hd⟩ else 0) = attnAt qt kk vt p l := by
  have hb : (⟨p.val / 4096, by omega⟩ : Fin 8) = b := Fin.ext (by show p.val / 4096 = b.val; omega)
  unfold attnAt
  by_cases hd : l.val % 128 < 80
  · rw [dif_pos hd, dif_pos hd, hb]
    unfold bmean
    have es : ∀ κ, bscore x0 x1 ⟨l.val / 128, by omega⟩ i r κ = attnScore qt kk b ⟨l.val / 128, by omega⟩ ⟨p.val % 4096, by omega⟩ κ := fun κ => by
      unfold bscore attnScore
      have hq : (512 * i.val + r.val) = p.val % 4096 := by omega
      have hi : (⟨p.val % 4096 / 512, by omega⟩ : Fin 8) = i := Fin.ext (by show p.val % 4096 / 512 = i.val; omega)
      have hr : (⟨p.val % 4096 % 512, by omega⟩ : Fin 512) = r := Fin.ext (by show p.val % 4096 % 512 = r.val; omega)
      simp only [e0, e1, hq, hi, hr]
    have ef : bscore x0 x1 ⟨l.val / 128, by omega⟩ i r = fun κ => attnScore qt kk b ⟨l.val / 128, by omega⟩ ⟨p.val % 4096, by omega⟩ κ := funext es
    rw [ef]
    simp only [e2]
  · rw [dif_neg hd, dif_neg hd]

end blocks

variable (m : (ℓ : Loc nD τ sig) → Buf (Elt Ideal) ℓ) (ρ : Dev nD → PrngReg)

/-- The attention of the three arrays. -/
def G (x0 : S8x8x512x512.Idx → EReal) (x1 : S32768x512.Idx → EReal) (x2 : S8x8x320x512.Idx → EReal) : S32768x512.Idx → EReal := fun j =>
  attnAt (fun a b c d => x0 (ix4 a b c d)) (fun a b => x1 (ix2 a b)) (fun a b c d => x2 (ix4 a b c d)) (j 0) (j 1)

/-- The block index of every window at a grid point. -/
theorem idx (t : Fin cfg0.N) : win0_0.index t = ![(grid0.coords t 0).val, (grid0.coords t 1).val, 0, 0] ∧ win0_1.index t = ![(grid0.coords t 0).val, 0, 0]
    ∧ win0_2.index t = ![(grid0.coords t 0).val, 0, 0, 0] ∧ win0_3.index t = ![(grid0.coords t 0).val * 8 + (grid0.coords t 1).val, 0] :=
  (by decide +kernel : ∀ t : Fin grid0.N, win0_0.index t = ![(grid0.coords t 0).val, (grid0.coords t 1).val, 0, 0]
    ∧ win0_1.index t = ![(grid0.coords t 0).val, 0, 0] ∧ win0_2.index t = ![(grid0.coords t 0).val, 0, 0, 0]
    ∧ win0_3.index t = ![(grid0.coords t 0).val * 8 + (grid0.coords t 1).val, 0]) t

/-- Queries, keys and values are finite, and row 64 of each head's values is the row of ones. -/
structure Good (x0 : S8x8x512x512.Idx → EReal) (x1 : S32768x512.Idx → EReal) (x2 : S8x8x320x512.Idx → EReal) : Prop where
  q : ∀ y, x0 y ≠ ⊤ ∧ x0 y ≠ ⊥
  k : ∀ y, x1 y ≠ ⊤ ∧ x1 y ≠ ⊥
  v : ∀ y, x2 y ≠ ⊤ ∧ x2 y ≠ ⊥
  one : ∀ (a j : Fin 8) (l : Fin 320) (k : Fin 512), l.val % 80 = 64 → x2 (ix4 a j l k) = 1

/-- The array after the run is `G` of the arguments. -/
theorem final (c : Dev nD) (hg : Good (m ((c : Thread nD τ).loc main_arg0)) (m ((c : Thread nD τ).loc main_arg1)) (m ((c : Thread nD τ).loc main_arg2))) :
    (dats m 0 c).arrAt 3 cfg0.N
      = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  idx_vars y
  have e0 : ∀ (a r : Fin 512), iblk m c 0 t (ix4 0 0 a r) = m ((c : Thread nD τ).loc main_arg0) (ix4 (grid0.coords t 0) (grid0.coords t 1) a r) := fun a r => by
    blk_ext! [iblk, V, idx t]
  have e1 : ∀ (κ : Fin 4096) (a : Fin 512), iblk m c 1 t (ix3 0 κ a) = m ((c : Thread nD τ).loc main_arg1)
      (ix2 ⟨4096 * (grid0.coords t 0).val + κ.val, by have := (grid0.coords t 0).isLt; have : (grid0.coords t 0).val < 8 := this; omega⟩ a) := fun κ a => by
    blk_ext! [iblk, V, idx t]
  have e2 : ∀ (j : Fin 8) (a : Fin 320) (k : Fin 512), iblk m c 2 t (ix4 0 j a k) = m ((c : Thread nD τ).loc main_arg2) (ix4 (grid0.coords t 0) j a k) := fun j a k => by
    blk_ext! [iblk, V, idx t]
  have f0 : ∀ y, iblk m c 0 t y ≠ (⊤ : EReal) ∧ iblk m c 0 t y ≠ (⊥ : EReal) := fun y => by idx_vars y; rw [Subsingleton.elim y0 0, Subsingleton.elim y1 0, e0]; exact hg.q _
  have f1 : ∀ y, iblk m c 1 t y ≠ (⊤ : EReal) ∧ iblk m c 1 t y ≠ (⊥ : EReal) := fun y => by idx_vars y; rw [Subsingleton.elim y0 0, e1]; exact hg.k _
  have f2 : ∀ y, iblk m c 2 t y ≠ (⊤ : EReal) ∧ iblk m c 2 t y ≠ (⊥ : EReal) := fun y => by idx_vars y; rw [Subsingleton.elim y0 0, e2]; exact hg.v _
  rw [last_at (iblk m c 0 t) (iblk m c 1 t) (iblk m c 2 t) f0 f1 f2 (fun h j k => by rw [e2]; exact hg.one _ _ _ _ (by show (80 * h.val + 64) % 80 = 64; omega)) (grid0.coords t 1) y0 y1]
  rw [glue (iblk m c 0 t) (iblk m c 1 t) (iblk m c 2 t) (fun a b c' d => m ((c : Thread nD τ).loc main_arg0) (ix4 a b c' d))
    (fun a b => m ((c : Thread nD τ).loc main_arg1) (ix2 a b)) (fun a b c' d => m ((c : Thread nD τ).loc main_arg2) (ix4 a b c' d))
    (grid0.coords t 0) (grid0.coords t 1) y0 y1 (((View.whole main_v1).slice (win0_3.rect t)).emb (ix2 y0 y1) 0) (by blk_simp [idx t]; omega)
    (fun a => e0 a y0) e1 e2]
  have hl : ((View.whole main_v1).slice (win0_3.rect t)).emb (ix2 y0 y1) 1 = y1 := by
    apply Fin.ext; blk_simp [idx t]
  unfold G
  rw [hl]

/-- The kernel's run: the result is `G` of the arguments, which stand. -/
theorem run (hg : ∀ c : Dev nD, Good (m ((c : Thread nD τ).loc main_arg0)) (m ((c : Thread nD τ).loc main_arg1)) (m ((c : Thread nD τ).loc main_arg2))) :
    θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c (hg c)), (h c).2⟩) (Value.run_blocks m ρ)

end Cert.AttnIdeal.Own
end
-- ==== Proof.AttnRefValue.lean ====
/-  The attention reference's result array: the same attention of the specification. -/
module

public import proofs.«01_k».proof.Proof.AttnValue
public import proofs.«01_k».proof.Proof.Gen.AttnRefIdeal.Read
public import Idealize.ShloMosaic.Lib.WordCmp

@[expose] public section
set_option maxRecDepth 16384
noncomputable section
open Idealize.ShloMosaic Idealize.ShloMosaic.TcCoe Idealize.SL.Sem
namespace Cert.AttnRefIdeal.Own
open Cert.AttnRefIdeal Cert.AttnRefIdeal.Gen Cert.AttnRefIdeal.Read Cert.Own

/-- The greatest element along an axis, from the bottom, is real where nothing is the top and something is not the bottom. -/
theorem reduce_max_real {s t u : Shape} {a : Fin s.rank} (x : FVec Ideal s .f32) (init : FVec Ideal u .f32) (h' : s.ReducesTo [a] t)
    (h : s.Reduces [a] t) (hu : 0 < u.numel) (j : t.Idx) (hi : (init (Shape.Idx.first hu) : EReal) = ⊥)
    (ht : ∀ i, (x i : EReal) ≠ ⊤) (k0 : Fin (s.size a)) (h0 : (x (h.lift j k0) : EReal) ≠ ⊥) :
    ∃ M : ℝ, Host.reduce (FloatOps.maximumf (F := Ideal) (φ := .f32)) x init h' hu j = ((M : ℝ) : EReal) := by
  rw [Host.reduce_eq_fold_single FloatOps.maximumf x init h' h hu j]
  obtain ⟨M, hM⟩ := max_real (m := ⊥) bot_ne_top (fun k : Fin (s.size a) => (x (h.lift j k) : EReal)) (fun k => ht _) k0 h0
  refine ⟨M, ?_⟩
  rw [hi, ← hM, max_eq_right bot_le]
  rfl

variable (x0 : (⟨S8x8x512x512, .bf16⟩ : BufTy).Contents (Elt Ideal)) (x1 : (⟨S32768x512, .bf16⟩ : BufTy).Contents (Elt Ideal))
  (x2 : (⟨S8x8x320x512, .bf16⟩ : BufTy).Contents (Elt Ideal))

/-- The score in the specification, from the reference's arrays. -/
abbrev S (b : Fin 8) (h : Fin 4) (q κ : Fin 4096) : EReal :=
  attnScore (fun a b c d => x0 (ix4 a b c d)) (fun a b => x1 (ix2 a b)) b h q κ

/-- The product of a query and a key. -/
theorem dot_at (b : Fin 8) (h : Fin 4) (q κ : Fin 4096) : val_main_v10 (F := Ideal) x0 x1 (ix4 b h q κ)
    = ∑ d : Fin 128, (x1 (ix2 ⟨4096 * b.val + κ.val, by omega⟩ ⟨128 * h.val + d.val, by omega⟩) : EReal)
      * x0 (ix4 b ⟨q.val / 512, by omega⟩ ⟨128 * h.val + d.val, by omega⟩ ⟨q.val % 512, by omega⟩) := by
  pointwise [val_main_v10, val_main_v5, val_main_v4, val_main_v3, val_main_v2, val_main_v1, val_main_v0]
  refine Finset.sum_congr rfl fun d _ => ?_
  rw [mul_comm]
  simp only [Nat.mul_comm b.val 4096, Nat.mul_comm h.val 128]

/-- The chunk of a row, as the reference computes it. -/
theorem chunk_word : ∀ q : Fin 4096, Scalar.select
      (IntOp.andi
        (IntOp.cmpi CmpIPredicate.ne
          (if BitVec.ofNat 32 q.val = 0 then (0 : BitVec 32) else if (BitVec.ofNat 32 q.val).msb = true then -1 else 1)
          (if (64#32 : BitVec 32) = 0 then 0 else if BitVec.msb (64#32) = true then -1 else 1))
        (IntOp.cmpi CmpIPredicate.ne (IntOp.remsi ArithUnit.host (BitVec.ofNat 32 q.val) 64#32) 0#32))
      (IntOp.subi (IntOp.divsi ArithUnit.host (BitVec.ofNat 32 q.val) 64#32) 1#32)
      (IntOp.divsi ArithUnit.host (BitVec.ofNat 32 q.val) 64#32) = BitVec.ofNat 32 (q.val / 64) := by
  decide +kernel

/-- The chunk of a row at an index. -/
theorem chunk_at (q : Fin 4096) : val_main_v15 (F := Ideal) (ix1 q) = BitVec.ofNat 32 (q.val / 64) := by
  pointwise [val_main_v15, val_main_call0_v13, val_main_call0_v12, val_main_call0_c_0, val_main_call0_v11, val_main_call0_v10, val_main_call0_v9,
    val_main_call0_c, val_main_call0_v8, val_main_call0_v7, val_main_call0_v6, val_main_call0_v5, val_main_call0_v4, val_main_call0_v3, val_main_call0_v2,
    val_main_call0_v1, val_main_call0_v0, val_main_c, val_main_v14]
  exact chunk_word q

/-- The bottom's bits. -/
theorem bot_bits : Ideal.ofBits .f32 4286578688#32 = ⊥ := by simp [Ideal.ofBits, Ideal.ieee]

/-- The logarithm of two. -/
theorem log_two : Ideal.log (Ideal.ofBits .f32 1073741824#32) = ((Real.log 2 : ℝ) : EReal) := by
  have e : Ideal.ofBits .f32 1073741824#32 = ((2 : ℝ) : EReal) := by
    simp [Ideal.ofBits, Ideal.ieee]
    rw [← EReal.coe_mul]
    norm_num
  rw [e]
  show (if (2 : ℝ) ≤ 0 then ⊥ else ((Real.log 2 : ℝ) : EReal)) = _
  rw [if_neg (by norm_num)]

/-- The masked score is the specification's, in natural units. -/
theorem score_at (b : Fin 8) (h : Fin 4) (q κ : Fin 4096) :
    val_main_v21 (F := Ideal) x0 x1 (ix4 b h q κ) = S x0 x1 b h q κ * ((Real.log 2 : ℝ) : EReal) := by
  pointwise [val_main_v21, val_main_call1_v2, val_main_call1_v1, val_main_call1_v0, val_main_cst_0, val_main_v20, val_main_v19, val_main_v18,
    val_main_v17, val_main_v16, val_main_v13, val_main_v12, val_main_v11, val_main_cst]
  rw [chunk_at, chunk_at, dot_at, log_two, WordCmp.cmpi_sle_ofNat (by omega) (by omega)]
  unfold S attnScore
  by_cases hc : κ.val / 64 ≤ q.val / 64
  · rw [if_pos hc, decide_eq_true hc]
    rfl
  · rw [if_neg hc, decide_eq_false hc]
    refine Eq.trans (b := (⊥ : EReal)) ?_ ?_
    · exact bot_bits
    · exact (EReal.bot_mul_coe_of_pos (Real.log_pos one_lt_two)).symm

variable (hg : Cert.AttnIdeal.Own.Good x0 x1 x2)

include hg in
/-- A score is never the top, and a row's own is real. -/
theorem S_ne_top (b : Fin 8) (h : Fin 4) (q κ : Fin 4096) : S x0 x1 b h q κ ≠ ⊤ := by
  unfold S attnScore
  split
  · exact (dot_fin (fun d : Fin 128 => x1 (ix2 (⟨4096 * b.val + κ.val, by omega⟩ : Fin 32768) ⟨128 * h.val + d.val, by omega⟩))
      (fun d : Fin 128 => x0 (ix4 b ⟨q.val / 512, by omega⟩ ⟨128 * h.val + d.val, by omega⟩ ⟨q.val % 512, by omega⟩)) (fun d => hg.k _) (fun d => hg.q _)).1
  · exact bot_ne_top

include hg in
/-- A row's score with itself is real. -/
theorem S_own (b : Fin 8) (h : Fin 4) (q : Fin 4096) : S x0 x1 b h q q ≠ ⊥ := by
  unfold S attnScore
  rw [if_pos le_rfl]
  exact (dot_fin (fun d : Fin 128 => x1 (ix2 (⟨4096 * b.val + q.val, by omega⟩ : Fin 32768) ⟨128 * h.val + d.val, by omega⟩))
    (fun d : Fin 128 => x0 (ix4 b ⟨q.val / 512, by omega⟩ ⟨128 * h.val + d.val, by omega⟩ ⟨q.val % 512, by omega⟩)) (fun d => hg.k _) (fun d => hg.q _)).2

include hg in
/-- The masked score in natural units is not the top. -/
theorem score_ne_top (i : S8x4x4096x4096.Idx) : val_main_v21 (F := Ideal) x0 x1 i ≠ (⊤ : EReal) := by
  idx_vars i
  rw [score_at]
  by_cases hb : S x0 x1 i0 i1 i2 i3 = ⊥
  · rw [hb, EReal.bot_mul_coe_of_pos (Real.log_pos one_lt_two)]; exact bot_ne_top
  · rw [← EReal.coe_toReal (S_ne_top x0 x1 x2 hg i0 i1 i2 i3) hb, ← EReal.coe_mul]; exact EReal.coe_ne_top _

include hg in
/-- The greatest score of a row is real. -/
theorem max_at (b : Fin 8) (h : Fin 4) (q : Fin 4096) : ∃ M : ℝ, (val_main_v22 (F := Ideal) x0 x1 (ix3 b h q) : EReal) = M := by
  unfold val_main_v22
  have hr : S8x4x4096x4096.Reduces [3] S8x4x4096 := by decide
  have hl : hr.lift (ix3 b h q) q = ix4 b h q q :=
    funext fun a => Fin.ext (by match a with | ⟨0, _⟩ => rfl | ⟨1, _⟩ => rfl | ⟨2, _⟩ => rfl | ⟨3, _⟩ => rfl)
  refine reduce_max_real (val_main_v21 (F := Ideal) x0 x1) (val_main_cst_1 (F := Ideal)) reducesTo_S8x4x4096x4096_S8x4x4096_d3 hr h_S_ (ix3 b h q)
    bot_bits (score_ne_top x0 x1 x2 hg) q ?_
  rw [hl, score_at, ← EReal.coe_toReal (S_ne_top x0 x1 x2 hg b h q q) (S_own x0 x1 x2 hg b h q), ← EReal.coe_mul]
  exact EReal.coe_ne_bot _

include hg in
/-- The exponentials of a row's scores, shifted by one real. -/
theorem exp_at (b : Fin 8) (h : Fin 4) (q : Fin 4096) : ∃ M : ℝ, ∀ κ, val_main_v28 (F := Ideal) x0 x1 (ix4 b h q κ)
    = Ideal.exp (S x0 x1 b h q κ * ((Real.log 2 : ℝ) : EReal) - (M : EReal)) := by
  obtain ⟨M, hM⟩ := max_at x0 x1 x2 hg b h q
  refine ⟨M, fun κ => ?_⟩
  have e : idx_main_v25 (idx_main_v26 (ix4 b h q κ)) = ix3 b h q := funext fun a => by match a with | ⟨0, _⟩ => rfl | ⟨1, _⟩ => rfl | ⟨2, _⟩ => rfl
  rw [val_main_v28_apply, val_main_v27_apply, val_main_v26_apply, val_main_v25_apply, val_main_v24_apply, val_main_v23_apply, val_main_cst_2_apply, e, hM,
    score_at]
  have e2 : FloatOps.maximumf (F := Ideal) (φ := .f32) (FloatOps.ofBits .f32 0xFF800000#32) ((M : ℝ) : EReal) = ((M : ℝ) : EReal) := by
    show max (Ideal.ofBits .f32 4286578688#32) ((M : ℝ) : EReal) = _
    rw [bot_bits, max_eq_right bot_le]
  rw [e2]
  rfl

include hg in
/-- The weights' sum is not zero. -/
theorem wt_sum (b : Fin 8) (h : Fin 4) (q : Fin 4096) : ∑ κ, wt (S x0 x1 b h q κ) ≠ 0 := by
  refine ne_of_gt (Finset.sum_pos' (fun κ _ => wt_nonneg _) ⟨q, Finset.mem_univ _, ?_⟩)
  rw [← EReal.coe_toReal (S_ne_top x0 x1 x2 hg b h q q) (S_own x0 x1 x2 hg b h q), wt_coe]
  positivity

/-- The weighted sum of values at an index, from the exponentials. -/
theorem mix_at (b : Fin 8) (h : Fin 4) (d : Fin 80) (q : Fin 4096) : val_main_v33 (F := Ideal) x0 x1 x2 (ix4 b h d q)
    = ∑ κ : Fin 4096, (x2 (ix4 b ⟨κ.val / 512, by omega⟩ ⟨h.val * 80 + d.val, by omega⟩ ⟨κ.val % 512, by omega⟩) : EReal)
        * Ideal.div (val_main_v28 (F := Ideal) x0 x1 (ix4 b h q κ)) (∑ κ', val_main_v28 (F := Ideal) x0 x1 (ix4 b h q κ')) := by
  pointwise [val_main_v33, val_main_v9, val_main_v8, val_main_v7, val_main_v6, val_main_v32, val_main_v31, val_main_v30, val_main_v29, val_main_cst_3]

/-- The zero the padding is filled with. -/
theorem pad_zero : FloatOps.sitofp (F := Ideal) .f32 (0#32 : BitVec 32) = (0 : EReal) := by
  show (((0#32 : BitVec 32).toInt : ℝ) : EReal) = 0
  simp

/-- The reference's result at an index: the weighted sum, zero past a head's 80 coordinates. -/
theorem lay_at (p : Fin 32768) (l : Fin 512) : val_main_v37 (F := Ideal) x0 x1 x2 (ix2 p l)
    = if hd : p.val / 4096 < 8 ∧ p.val % 4096 < 4096 ∧ l.val / 128 < 4 ∧ l.val % 128 < 80 then
        val_main_v33 (F := Ideal) x0 x1 x2 (ix4 ⟨p.val / 4096, by omega⟩ ⟨l.val / 128, by omega⟩ ⟨l.val % 128, by omega⟩ ⟨p.val % 4096, by omega⟩)
      else FloatOps.sitofp (F := Ideal) .f32 (0#32 : BitVec 32) := by
  unfold val_main_v37 val_main_v36 val_main_v35 val_main_v34
  generalize val_main_v33 (F := Ideal) x0 x1 x2 = y
  pointwise [val_main_call2_v0, val_main_c_4]

/-- The reference's result at an index, from its exponentials. -/
theorem res_at (p : Fin 32768) (l : Fin 512) : val_main_v37 (F := Ideal) x0 x1 x2 (ix2 p l)
    = if hd : l.val % 128 < 80 then
        ∑ κ : Fin 4096, (x2 (ix4 ⟨p.val / 4096, by omega⟩ ⟨κ.val / 512, by omega⟩ ⟨80 * (l.val / 128) + l.val % 128, by omega⟩ ⟨κ.val % 512, by omega⟩) : EReal)
          * Ideal.div (val_main_v28 (F := Ideal) x0 x1 (ix4 ⟨p.val / 4096, by omega⟩ ⟨l.val / 128, by omega⟩ ⟨p.val % 4096, by omega⟩ κ))
            (∑ κ', val_main_v28 (F := Ideal) x0 x1 (ix4 ⟨p.val / 4096, by omega⟩ ⟨l.val / 128, by omega⟩ ⟨p.val % 4096, by omega⟩ κ'))
      else 0 := by
  rw [lay_at]
  by_cases hd : l.val % 128 < 80
  · rw [dif_pos hd, dif_pos ⟨by omega, by omega, by omega, hd⟩, mix_at]
    simp only [Nat.mul_comm (l.val / 128) 80]
  · rw [dif_neg hd, dif_neg (fun hh => hd hh.2.2.2)]
    exact pad_zero

/-- A softmax mean of values, from exponentials of scores shifted by a real. -/
theorem mean_eq (S' : Fin 4096 → EReal) (hS : ∀ κ, S' κ ≠ ⊤) (hw : ∑ κ, wt (S' κ) ≠ 0) (M : ℝ) (v y : Fin 4096 → EReal)
    (hv : ∀ κ, v κ ≠ ⊤ ∧ v κ ≠ ⊥) (hy : ∀ κ, y κ = Ideal.exp (S' κ * ((Real.log 2 : ℝ) : EReal) - (M : EReal))) :
    ∑ κ, v κ * Ideal.div (y κ) (∑ κ', y κ') = attnMean S' v := by
  obtain rfl : y = fun κ => Ideal.exp (S' κ * ((Real.log 2 : ℝ) : EReal) - (M : EReal)) := funext hy
  refine Eq.trans (Finset.sum_congr rfl fun κ _ => ?_) (softmax_mean S' hS M (fun κ => (v κ).toReal) hw)
  rw [EReal.coe_toReal (hv κ).1 (hv κ).2, mul_comm]

include hg in
/-- The reference's result is the specification's attention. -/
theorem out_at (j : S32768x512.Idx) : val_main_v37 (F := Ideal) x0 x1 x2 j = Cert.AttnIdeal.Own.G x0 x1 x2 j := by
  idx_vars j
  rw [res_at]
  show _ = attnAt (fun a b c d => x0 (ix4 a b c d)) (fun a b => x1 (ix2 a b)) (fun a b c d => x2 (ix4 a b c d)) j0 j1
  unfold attnAt
  by_cases hd : j1.val % 128 < 80
  · rw [dif_pos hd, dif_pos hd]
    obtain ⟨M, hM⟩ := exp_at x0 x1 x2 hg ⟨j0.val / 4096, by omega⟩ ⟨j1.val / 128, by omega⟩ ⟨j0.val % 4096, by omega⟩
    exact mean_eq _ (S_ne_top x0 x1 x2 hg _ _ _) (wt_sum x0 x1 x2 hg _ _ _) M _ _ (fun κ => hg.v _) hM
  · rw [dif_neg hd, dif_neg hd]

include hg in
/-- The reference's result is the specification's attention, as arrays. -/
theorem out_eq : val_main_v37 (F := Ideal) x0 x1 x2 = Cert.AttnIdeal.Own.G x0 x1 x2 := funext fun j => out_at x0 x1 x2 hg j

end Cert.AttnRefIdeal.Own
end
-- ==== Proof.AttnRefRun.lean ====
/-  The attention reference's run. -/
module

public import proofs.«01_k».proof.Proof.AttnRefValue

@[expose] public section
set_option maxRecDepth 16384
noncomputable section
open Idealize.ShloMosaic Idealize.ShloMosaic.TcCoe Idealize.SL.Sem
namespace Cert.AttnRefIdeal.Own
open Cert.AttnRefIdeal Cert.AttnRefIdeal.Gen Cert.AttnRefIdeal.Read Cert.Own

/-- The reference's run: its result is the same function of the arguments. -/
theorem run (m : (ℓ : Loc nD τ sig) → Buf (Elt Ideal) ℓ) (ρ : Dev nD → PrngReg)
    (hg : ∀ c : Dev nD, Cert.AttnIdeal.Own.Good (m ((c : Thread nD τ).loc main_arg0)) (m ((c : Thread nD τ).loc main_arg1)) (m ((c : Thread nD τ).loc main_arg2))) :
    θ_run defs (onTc (τ := τ) (main (F := Ideal))) ⟨m, fun _ => 0, ρ⟩ fun r => ∀ c : Dev nD,
      r.2.mem ((c : Thread nD τ).loc main_v37)
        = Cert.AttnIdeal.Own.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((val_main_v37_eq m c).trans (out_eq (m ((c : Thread nD τ).loc main_arg0))
    (m ((c : Thread nD τ).loc main_arg1)) (m ((c : Thread nD τ).loc main_arg2)) (hg c))), (h c).2⟩)
    (Value.run m ρ)

end Cert.AttnRefIdeal.Own
end
-- ==== Proof.AttnPre.lean ====
/-  What the attention's precondition says: finite queries, keys and values, ones in row 64 of each head's values. -/
module

public import proofs.«01_k».proof.Proof.AttnValue
public import proofs.«01_k».proof.Pre_attn_finite
public import Idealize.ShloMosaic.Lib.ReduceAll

@[expose] public section
set_option maxRecDepth 16384
noncomputable section
open Idealize.ShloMosaic
namespace Cert.Pre_attn_finite.Own
open Cert.Pre_attn_finite Cert.Own
/-- A number whose absolute value is below the top is neither top nor bottom. -/
theorem fin_of_abs (a : EReal) (h : FloatOps.cmpf (F := Ideal) (φ := .f32) .olt (FloatOps.hostAbsf (F := Ideal) (φ := .f32) a) (Ideal.ofBits .f32 2139095040#32) = 1#1) :
    a ≠ ⊤ ∧ a ≠ ⊥ := by
  have e : Ideal.ofBits .f32 2139095040#32 = ⊤ := by simp [Ideal.ofBits, Ideal.ieee]
  rw [e] at h
  have h' : max a (-a) < (⊤ : EReal) := by
    by_contra hn
    revert h
    show BitVec.ofBool (decide (max a (-a) < ⊤)) ≠ 1#1
    rw [decide_eq_false hn]; decide
  constructor
  · rintro rfl; simp at h'
  · rintro rfl; simp at h'

variable [Facts]
open Facts

/-- The precondition, read. -/
theorem good (x0 : FVec Ideal S8x8x512x512 .bf16) (x1 : FVec Ideal S32768x512 .bf16) (x2 : FVec Ideal S8x8x320x512 .bf16)
    (h : fn (F := Ideal) x0 x1 x2 = fun _ => 1#1) : Cert.AttnIdeal.Own.Good x0 x1 x2 := by
  have h := congrFun h ix0
  unfold fn fn_part1 at h
  obtain ⟨h123, h4⟩ := IntOp.andi_eq_one.1 h
  obtain ⟨h12, h3⟩ := IntOp.andi_eq_one.1 h123
  obtain ⟨h1, h2⟩ := IntOp.andi_eq_one.1 h12
  haveI : Subsingleton S_.Idx := ⟨fun a b => funext fun i => i.elim0⟩
  have k1 := Host.reduce_andi_all _ _ _ _ _ h1
  have k2 := Host.reduce_andi_all _ _ _ _ _ h2
  have k3 := Host.reduce_andi_all _ _ _ _ _ h3
  have k4 := Host.reduce_andi_all _ _ _ _ _ h4
  refine ⟨fun y => fin_of_abs _ (k1 y), fun y => fin_of_abs _ (k2 y), fun y => fin_of_abs _ (k3 y), fun a j l k hl => ?_⟩
  have e := k4 (ix4 a j ⟨l.val / 80, by omega⟩ k)
  revert e
  pointwise
  intro e
  have hx : x2 (ix4 a j ⟨l.val / 80 * 80 + 64, by omega⟩ k) = 1 := by
    by_contra hn
    rw [decide_eq_false hn] at e
    revert e; decide
  rwa [show (⟨l.val / 80 * 80 + 64, by omega⟩ : Fin 320) = l from Fin.ext (by show l.val / 80 * 80 + 64 = l.val; omega)] at hx

end Cert.Pre_attn_finite.Own
end
-- ==== Proof.PostSpec.lean ====
/-  The row formulas of the output projection with the memory attention, and that the kernel's order of operations gives the same row. -/
module

public import proofs.«01_k».proof.Proof.Spec
public import proofs.«01_k».proof.Proof.Flash
public import Idealize.ShloMosaic.Lib.Pointwise

@[expose] public section
noncomputable section
open Idealize.ShloMosaic
namespace Cert.Own

/-- A row's length as a float. -/
abbrev len : EReal := Ideal.ofBits .f32 1149239296#32
/-- The scale of the memory attention's scores. -/
abbrev xaScale : EReal := Ideal.ofBits .f32 1031798784#32

/-- The greatest of a row of scores. -/
def rowMax (s : Fin 256 → EReal) : EReal := Finset.fold max ⊥ s Finset.univ
/-- The softmax mean of a row of values, the weights normalised first. -/
def smx (s v : Fin 256 → EReal) : EReal := ∑ m, Ideal.div (Ideal.exp (s m - rowMax s)) (∑ n, Ideal.exp (s n - rowMax s)) * v m
/-- The same, the weighted sum divided at the end. -/
def kmx (s v : Fin 256 → EReal) : EReal := Ideal.div (∑ m, Ideal.exp (s m - rowMax s) * v m) (∑ n, Ideal.exp (s n - rowMax s))

/-- The projection of the three mixers' outputs, at place `l`. -/
def mixAt (ys : Fin 512 → EReal) (ym yg : Fin 256 → EReal) (w : Fin 1024 → Fin 1024 → EReal) (l : Fin 1024) : EReal :=
  ∑ k : Fin 512, ys k * w ⟨k.val, by omega⟩ l + ∑ k : Fin 256, ym k * w ⟨512 + k.val, by omega⟩ l + ∑ k : Fin 256, yg k * w ⟨768 + k.val, by omega⟩ l

/-- The residual after the mixers. -/
def h1At (h mix gm : Fin 1024 → EReal) (l : Fin 1024) : EReal := h l + rmsAt len mix gm l
/-- The queries of the memory attention. -/
def qAt (h1 gx : Fin 1024 → EReal) (wq : Fin 1024 → Fin 1024 → EReal) (l : Fin 1024) : EReal := ∑ k, rmsAt len h1 gx k * wq k l
/-- A head's scores, scaled after the product. -/
def scAt (q : Fin 1024 → EReal) (kt : Fin 1024 → Fin 256 → EReal) (hd : Fin 4) (m : Fin 256) : EReal :=
  (∑ d : Fin 256, q ⟨256 * hd.val + d.val, by omega⟩ * kt ⟨256 * hd.val + d.val, by omega⟩ m) * xaScale
/-- A head's scores, the queries scaled. -/
def kscAt (q : Fin 1024 → EReal) (kt : Fin 1024 → Fin 256 → EReal) (hd : Fin 4) (m : Fin 256) : EReal :=
  ∑ d : Fin 256, (q ⟨256 * hd.val + d.val, by omega⟩ * xaScale) * kt ⟨256 * hd.val + d.val, by omega⟩ m
/-- The row of the result. -/
def postAt (h1 q : Fin 1024 → EReal) (kt : Fin 1024 → Fin 256 → EReal) (v : Fin 256 → Fin 1024 → EReal) (wo : Fin 1024 → Fin 1024 → EReal)
    (gp : Fin 1024 → EReal) (l : Fin 1024) : EReal :=
  h1 l + rmsAt len (fun j => ∑ e : Fin 1024, smx (scAt q kt ⟨e.val / 256, by omega⟩) (fun m => v m e) * wo e j) gp l
/-- The row of the result as the kernel orders it. -/
def kpostAt (h1 q : Fin 1024 → EReal) (kt : Fin 1024 → Fin 256 → EReal) (v : Fin 256 → Fin 1024 → EReal) (wo : Fin 1024 → Fin 1024 → EReal)
    (gp : Fin 1024 → EReal) (l : Fin 1024) : EReal :=
  h1 l + rmsAt len (fun j => ∑ e : Fin 1024, kmx (kscAt q kt ⟨e.val / 256, by omega⟩) (fun m => v m e) * wo e j) gp l

/-- A finite number. -/
def IsFin (x : EReal) : Prop := x ≠ ⊤ ∧ x ≠ ⊥

theorem IsFin.coe (r : ℝ) : IsFin (r : EReal) := ⟨EReal.coe_ne_top r, EReal.coe_ne_bot r⟩
theorem IsFin.ex {x : EReal} (h : IsFin x) : ∃ r : ℝ, x = r := ⟨x.toReal, (EReal.coe_toReal h.1 h.2).symm⟩
theorem IsFin.mul {x y : EReal} (hx : IsFin x) (hy : IsFin y) : IsFin (x * y) := by
  obtain ⟨a, rfl⟩ := hx.ex; obtain ⟨b, rfl⟩ := hy.ex
  rw [← EReal.coe_mul]; exact .coe _
theorem IsFin.add {x y : EReal} (hx : IsFin x) (hy : IsFin y) : IsFin (x + y) := by
  obtain ⟨a, rfl⟩ := hx.ex; obtain ⟨b, rfl⟩ := hy.ex
  rw [← EReal.coe_add]; exact .coe _
theorem IsFin.sum {n : ℕ} {f : Fin n → EReal} (h : ∀ i, IsFin (f i)) : IsFin (∑ i, f i) := by
  choose g hg using fun i => (h i).ex
  rw [Finset.sum_congr rfl fun i _ => hg i, ← coe_sum]
  exact .coe _

/-- The bottom's bits. -/
theorem bot_bits : Ideal.ofBits .f32 4286578688#32 = ⊥ := by simp [Ideal.ofBits, Ideal.ieee]
theorem xaScale_eq : xaScale = ((1 / 16 : ℝ) : EReal) := by
  simp [xaScale, Ideal.ofBits, Ideal.ieee]
  rw [← EReal.coe_mul]
  norm_num
theorem len_eq : len = ((1024 : ℝ) : EReal) := by
  simp [len, Ideal.ofBits, Ideal.ieee]
  rw [← EReal.coe_mul]
  norm_num
theorem eps_eq : ∃ e : ℝ, 0 < e ∧ Ideal.ofBits .f32 897988541#32 = (e : EReal) := by
  refine ⟨_, ?_, by simp [Ideal.ofBits, Ideal.ieee]; rw [← EReal.coe_mul]⟩
  positivity

/-- A normalised finite row is finite. -/
theorem rms_fin {x g : Fin 1024 → EReal} (hx : ∀ k, IsFin (x k)) (hg : ∀ k, IsFin (g k)) (k : Fin 1024) : IsFin (rmsAt len x g k) := by
  unfold rmsAt
  choose y hy using fun i => (hx i).ex
  obtain ⟨e, he, e_eq⟩ := eps_eq
  have hr : IsFin (Ideal.rsqrt (Ideal.div (∑ j, x j * x j) len + Ideal.ofBits .f32 897988541#32)) := by
    have hs : ∑ j, x j * x j = ((∑ j, y j * y j : ℝ) : EReal) := by
      rw [coe_sum]
      exact Finset.sum_congr rfl fun j _ => by rw [hy j, EReal.coe_mul]
    have hd : Ideal.div (∑ j, x j * x j) len = (((∑ j, y j * y j) * (1024 : ℝ)⁻¹ : ℝ) : EReal) := by
      unfold Ideal.div
      rw [hs, len_eq, if_neg (by norm_num), EReal.coe_mul, EReal.coe_inv]
    rw [hd, e_eq, ← EReal.coe_add]
    have hp : 0 < (∑ j, y j * y j) * (1024 : ℝ)⁻¹ + e :=
      add_pos_of_nonneg_of_pos (mul_nonneg (Finset.sum_nonneg fun j _ => mul_self_nonneg _) (by norm_num)) he
    show IsFin (if _ < (0 : ℝ) then ⊥ else if _ = (0 : ℝ) then ⊤ else _)
    rw [if_neg (not_lt.2 hp.le), if_neg hp.ne']
    exact .coe _
  exact ((hx k).mul hr).mul (hg k)

/-- A sum of products with one nonnegative finite factor. -/
theorem sum_mul_const {n : ℕ} (f : Fin n → EReal) {c : EReal} (h0 : 0 ≤ c) (ht : c ≠ ⊤) : ∑ i, f i * c = (∑ i, f i) * c := by
  classical
  have : ∀ s : Finset (Fin n), ∑ i ∈ s, f i * c = (∑ i ∈ s, f i) * c := fun s => by
    induction s using Finset.induction_on with
    | empty => simp
    | insert a s ha ih => rw [Finset.sum_insert ha, Finset.sum_insert ha, ih, EReal.right_distrib_of_nonneg_of_ne_top h0 ht]
  exact this _

/-- Scaling the queries scales the scores. -/
theorem ksc_eq (q : Fin 1024 → EReal) (kt : Fin 1024 → Fin 256 → EReal) (hd : Fin 4) : kscAt q kt hd = scAt q kt hd := by
  funext m
  unfold kscAt scAt
  rw [← sum_mul_const _ (by rw [xaScale_eq]; exact_mod_cast (by norm_num : (0 : ℝ) ≤ 1 / 16)) (by rw [xaScale_eq]; exact EReal.coe_ne_top _)]
  exact Finset.sum_congr rfl fun d _ => mul_right_comm _ _ _

/-- Dividing at the end is normalising first, when the scores are finite. -/
theorem kmx_eq (s v : Fin 256 → EReal) (hs : ∀ m, IsFin (s m)) : kmx s v = smx s v := by
  obtain ⟨M, hM⟩ := max_real (m := ⊥) bot_ne_top s (fun k => (hs k).1) 0 (hs 0).2
  rw [max_eq_right bot_le] at hM
  choose y hy using fun i => (hs i).ex
  have he : ∀ n, Ideal.exp (s n - rowMax s) = ((Real.exp (y n - M) : ℝ) : EReal) := fun n => by
    rw [rowMax, hM, hy n, ← EReal.coe_sub]; rfl
  unfold kmx smx
  simp only [he]
  rw [← coe_sum]
  have hp : 0 < ∑ n : Fin 256, Real.exp (y n - M) := Finset.sum_pos (fun n _ => Real.exp_pos _) ⟨0, Finset.mem_univ _⟩
  generalize ∑ n : Fin 256, Real.exp (y n - M) = L at hp
  have hL : ((L : ℝ) : EReal) ≠ 0 := by exact_mod_cast hp.ne'
  simp only [Ideal.div, if_neg hL]
  rw [← EReal.coe_inv]
  have hi : (0 : ℝ) ≤ L⁻¹ := inv_nonneg.2 hp.le
  rw [← sum_mul_const _ (by exact_mod_cast hi) (EReal.coe_ne_top _)]
  exact Finset.sum_congr rfl fun m _ => mul_right_comm _ _ _

/-- The kernel's row is the row of the specification, when queries and keys are finite. -/
theorem kpost_eq (h1 q : Fin 1024 → EReal) (kt : Fin 1024 → Fin 256 → EReal) (v : Fin 256 → Fin 1024 → EReal) (wo : Fin 1024 → Fin 1024 → EReal)
    (gp : Fin 1024 → EReal) (hq : ∀ k, IsFin (q k)) (hk : ∀ k m, IsFin (kt k m)) : kpostAt h1 q kt v wo gp = postAt h1 q kt v wo gp := by
  funext l
  unfold kpostAt postAt
  have e : ∀ e : Fin 1024, kmx (kscAt q kt ⟨e.val / 256, by omega⟩) (fun m => v m e) = smx (scAt q kt ⟨e.val / 256, by omega⟩) (fun m => v m e) := fun e => by
    rw [ksc_eq, kmx_eq]
    intro m
    refine IsFin.mul (IsFin.sum fun d => (hq _).mul (hk _ _)) ?_
    rw [xaScale_eq]
    exact .coe _
  simp only [e]

/-- The projection of finite rows is finite. -/
theorem mix_fin {ys : Fin 512 → EReal} {ym yg : Fin 256 → EReal} {w : Fin 1024 → Fin 1024 → EReal} (h1 : ∀ k, IsFin (ys k)) (h2 : ∀ k, IsFin (ym k))
    (h3 : ∀ k, IsFin (yg k)) (hw : ∀ k l, IsFin (w k l)) (l : Fin 1024) : IsFin (mixAt ys ym yg w l) :=
  ((IsFin.sum fun k => (h1 k).mul (hw _ _)).add (IsFin.sum fun k => (h2 k).mul (hw _ _))).add (IsFin.sum fun k => (h3 k).mul (hw _ _))

/-- A sum over four heads of 128 lanes, zero past 64, is the sum over the 64. -/
theorem spread_sum (f : Fin 512 → EReal) (w : Fin 1024 → EReal) :
    ∑ k : Fin 512, f k * (if hk : k.val % 128 < 64 then w ⟨512 + 64 * (k.val / 128) + k.val % 128, by omega⟩ else 0)
      = ∑ j : Fin 256, f ⟨128 * (j.val / 64) + j.val % 64, by omega⟩ * w ⟨512 + j.val, by omega⟩ := by
  symm
  refine Finset.sum_of_injOn (fun j : Fin 256 => (⟨128 * (j.val / 64) + j.val % 64, by omega⟩ : Fin 512)) ?_ (fun j _ => Finset.mem_coe.2 (Finset.mem_univ _)) ?_ ?_
  · intro a _ b _ h
    have h' := congrArg Fin.val h
    simp only at h'
    exact Fin.ext (by omega)
  · intro k _ hk
    by_cases h : k.val % 128 < 64
    · exact absurd ⟨⟨64 * (k.val / 128) + k.val % 128, by omega⟩, Finset.mem_coe.2 (Finset.mem_univ _), Fin.ext (by show 128 * ((64 * (k.val / 128) + k.val % 128) / 64) + (64 * (k.val / 128) + k.val % 128) % 64 = k.val; omega)⟩ hk
    · rw [dif_neg h, mul_zero]
  · intro j _
    have h : (128 * (j.val / 64) + j.val % 64) % 128 < 64 := by omega
    simp only [h, dite_true]
    congr 2
    apply Fin.ext
    show 512 + j.val = 512 + 64 * ((128 * (j.val / 64) + j.val % 64) / 128) + (128 * (j.val / 64) + j.val % 64) % 128
    omega

/-- The queries of finite rows are finite. -/
theorem q_fin {h mix gm gx : Fin 1024 → EReal} {wq : Fin 1024 → Fin 1024 → EReal} (hh : ∀ k, IsFin (h k)) (hm : ∀ k, IsFin (mix k)) (hg : ∀ k, IsFin (gm k))
    (hx : ∀ k, IsFin (gx k)) (hw : ∀ k l, IsFin (wq k l)) (l : Fin 1024) : IsFin (qAt (h1At h mix gm) gx wq l) :=
  IsFin.sum fun k => (rms_fin (fun j => (hh j).add (rms_fin hm hg j)) hx k).mul (hw _ _)

end Cert.Own
end
-- ==== Proof.PostRefValue.lean ====
/-  The post reference's result array: the row formula of the specification. -/
module

public import proofs.«01_k».proof.Proof.PostSpec
public import proofs.«01_k».proof.Proof.Gen.PostRefIdeal.Read
public import Idealize.ShloMosaic.Lib.Pointwise

@[expose] public section
set_option maxRecDepth 16384
noncomputable section
open Idealize.ShloMosaic Idealize.ShloMosaic.TcCoe Idealize.SL.Sem
namespace Cert.PostRefIdeal.Own
open Cert.PostRefIdeal Cert.PostRefIdeal.Gen Cert.PostRefIdeal.Read Cert.Own

variable (x0 : (⟨S32768x1024, .f32⟩ : BufTy).Contents (Elt Ideal)) (x1 x2 : (⟨S32768x512, .bf16⟩ : BufTy).Contents (Elt Ideal))
  (x3 : (⟨S32768x256, .bf16⟩ : BufTy).Contents (Elt Ideal)) (x4 : (⟨S1024x1024, .f32⟩ : BufTy).Contents (Elt Ideal)) (x5 x6 : (⟨S1024, .f32⟩ : BufTy).Contents (Elt Ideal))
  (x7 : (⟨S1024x1024, .f32⟩ : BufTy).Contents (Elt Ideal)) (x8 : (⟨S8x1024x256, .bf16⟩ : BufTy).Contents (Elt Ideal)) (x9 : (⟨S8x256x1024, .bf16⟩ : BufTy).Contents (Elt Ideal))
  (x10 : (⟨S1024x1024, .f32⟩ : BufTy).Contents (Elt Ideal)) (x11 : (⟨S1024, .f32⟩ : BufTy).Contents (Elt Ideal))

/-- The row after the mixers. -/
def rowH (x0 : S32768x1024.Idx → EReal) (x1 x2 : S32768x512.Idx → EReal) (x3 : S32768x256.Idx → EReal) (x4 : S1024x1024.Idx → EReal) (x5 : S1024.Idx → EReal)
    (p : Fin 32768) : Fin 1024 → EReal :=
  h1At (fun k => x0 (ix2 p k)) (mixAt (fun k => x1 (ix2 p k)) (fun k => x2 (ix2 p ⟨128 * (k.val / 64) + k.val % 64, by omega⟩)) (fun k => x3 (ix2 p k)) (fun k l => x4 (ix2 k l)))
    (fun k => x5 (ix1 k))
/-- The result array as one function of the arguments. -/
def G (x0 : S32768x1024.Idx → EReal) (x1 x2 : S32768x512.Idx → EReal) (x3 : S32768x256.Idx → EReal) (x4 : S1024x1024.Idx → EReal) (x5 x6 : S1024.Idx → EReal)
    (x7 : S1024x1024.Idx → EReal) (x8 : S8x1024x256.Idx → EReal) (x9 : S8x256x1024.Idx → EReal) (x10 : S1024x1024.Idx → EReal) (x11 : S1024.Idx → EReal)
    (j : S32768x1024.Idx) : EReal :=
  postAt (rowH x0 x1 x2 x3 x4 x5 (j 0)) (qAt (rowH x0 x1 x2 x3 x4 x5 (j 0)) (fun k => x6 (ix1 k)) (fun k j => x7 (ix2 k j)))
    (fun k κ => x8 (ix3 ⟨(j 0).val / 4096, by have := (j 0).isLt; show _ < 8; exact Nat.div_lt_of_lt_mul this⟩ k κ))
    (fun κ e => x9 (ix3 ⟨(j 0).val / 4096, by have := (j 0).isLt; show _ < 8; exact Nat.div_lt_of_lt_mul this⟩ κ e)) (fun e l => x10 (ix2 e l)) (fun k => x11 (ix1 k)) (j 1)

/-- The attention's output without the padding lanes. -/
theorem ym_at (p : Fin 32768) (k : Fin 256) : val_main_v7 (F := Ideal) x2 (ix2 p k) = x2 (ix2 p ⟨128 * (k.val / 64) + k.val % 64, by omega⟩) := by
  pointwise [val_main_v7, val_main_v6, val_main_v5, val_main_v1]
  simp only [Nat.mul_comm (k.val / 64) 128]

/-- The mixers' outputs side by side. -/
theorem cat_at (p : Fin 32768) (k : Fin 1024) : val_main_v8 (F := Ideal) x1 x2 x3 (ix2 p k)
    = if h : k.val < 512 then x1 (ix2 p ⟨k.val, h⟩) else if h : k.val - 512 < 256 then x2 (ix2 p ⟨128 * ((k.val - 512) / 64) + (k.val - 512) % 64, by omega⟩)
      else x3 (ix2 p ⟨k.val - 512 - 256, by omega⟩) := by
  unfold val_main_v8 val_main_v0 val_main_v2
  have e := ym_at x2 p
  generalize val_main_v7 (F := Ideal) x2 = y at *
  pointwise
  simp only [e]

/-- The first projection. -/
theorem mix0_at (p : Fin 32768) (l : Fin 1024) : val_main_v9 (F := Ideal) x1 x2 x3 x4 (ix2 p l)
    = ∑ k : Fin 1024, val_main_v8 (F := Ideal) x1 x2 x3 (ix2 p k) * x4 (ix2 k l) := by
  unfold val_main_v9
  generalize val_main_v8 (F := Ideal) x1 x2 x3 = y
  pointwise

/-- The residual row. -/
theorem h1_at (p : Fin 32768) (l : Fin 1024) : val_main_v23 (F := Ideal) x0 x1 x2 x3 x4 x5 (ix2 p l)
    = h1At (fun k => x0 (ix2 p k)) (fun j => val_main_v9 (F := Ideal) x1 x2 x3 x4 (ix2 p j)) (fun k => x5 (ix1 k)) l := by
  unfold val_main_v23 val_main_v22 val_main_v19 val_main_v18 val_main_v17 val_main_v16 val_main_v14 val_main_v12 val_main_v11 val_main_v10
  generalize val_main_v9 (F := Ideal) x1 x2 x3 x4 = y
  pointwise [val_main_v13, val_main_v15, val_main_v20, val_main_v21, val_main_cst, val_main_cst_0, val_main_cst_1, h1At, rmsAt, len]

/-- The queries. -/
theorem q_at (p : Fin 32768) (l : Fin 1024) : val_main_v37 (F := Ideal) x0 x1 x2 x3 x4 x5 x6 x7 (ix2 p l)
    = qAt (fun k => val_main_v23 (F := Ideal) x0 x1 x2 x3 x4 x5 (ix2 p k)) (fun k => x6 (ix1 k)) (fun k j => x7 (ix2 k j)) l := by
  unfold val_main_v37 val_main_v36 val_main_v33 val_main_v32 val_main_v31 val_main_v30 val_main_v28 val_main_v26 val_main_v25 val_main_v24
  generalize val_main_v23 (F := Ideal) x0 x1 x2 x3 x4 x5 = y
  pointwise [val_main_v27, val_main_v29, val_main_v34, val_main_v35, val_main_cst_2, val_main_cst_3, val_main_cst_4, qAt, rmsAt, len]

/-- A head's lane. -/
abbrev hl (hd : Fin 4) (d : Fin 256) : Fin 1024 := ⟨256 * hd.val + d.val, by omega⟩

/-- The scores. -/
theorem sc_at (b : Fin 8) (hd : Fin 4) (n : Fin 4096) (κ : Fin 256) : val_main_v43 (F := Ideal) x0 x1 x2 x3 x4 x5 x6 x7 x8 (ix4 b hd n κ)
    = scAt (fun k => val_main_v37 (F := Ideal) x0 x1 x2 x3 x4 x5 x6 x7 (ix2 ⟨4096 * b.val + n.val, by omega⟩ k)) (fun k j => x8 (ix3 b k j)) hd κ := by
  unfold val_main_v43 val_main_v41 val_main_v38
  generalize val_main_v37 (F := Ideal) x0 x1 x2 x3 x4 x5 x6 x7 = y
  pointwise [val_main_v40, val_main_v39, val_main_v3, val_main_v42, val_main_cst_5, scAt, xaScale]
  simp only [Nat.mul_comm b.val 4096, Nat.mul_comm hd.val 256]

/-- The greatest score. -/
theorem max_at (b : Fin 8) (hd : Fin 4) (n : Fin 4096) : val_main_v44 (F := Ideal) x0 x1 x2 x3 x4 x5 x6 x7 x8 (ix3 b hd n)
    = rowMax (fun κ => val_main_v43 (F := Ideal) x0 x1 x2 x3 x4 x5 x6 x7 x8 (ix4 b hd n κ)) := by
  unfold val_main_v44
  generalize val_main_v43 (F := Ideal) x0 x1 x2 x3 x4 x5 x6 x7 x8 = y
  have hr : S8x4x4096x256.Reduces [3] S8x4x4096 := by decide
  have hl : ∀ κ : Fin 256, hr.lift (ix3 b hd n) κ = ix4 b hd n κ := fun κ =>
    funext fun a => Fin.ext (by match a with | ⟨0, _⟩ => rfl | ⟨1, _⟩ => rfl | ⟨2, _⟩ => rfl | ⟨3, _⟩ => rfl)
  refine (Host.reduce_eq_fold_single (FloatOps.maximumf (F := Ideal) (φ := .f32)) (y : FVec Ideal S8x4x4096x256 .f32) (val_main_cst_6 (F := Ideal))
    reducesTo_S8x4x4096x256_S8x4x4096_d3 hr h_S_ (ix3 b hd n)).trans ?_
  unfold rowMax
  rw [← bot_bits]
  exact congrArg (fun f => Finset.fold max (Ideal.ofBits .f32 4286578688#32) f Finset.univ) (funext fun κ => congrArg y (hl κ))

/-- The weights before the division. -/
theorem exp_at (b : Fin 8) (hd : Fin 4) (n : Fin 4096) (κ : Fin 256) : val_main_v50 (F := Ideal) x0 x1 x2 x3 x4 x5 x6 x7 x8 (ix4 b hd n κ)
    = Ideal.exp (val_main_v43 (F := Ideal) x0 x1 x2 x3 x4 x5 x6 x7 x8 (ix4 b hd n κ) - rowMax (fun κ => val_main_v43 (F := Ideal) x0 x1 x2 x3 x4 x5 x6 x7 x8 (ix4 b hd n κ))) := by
  have e : idx_main_v47 (idx_main_v48 (ix4 b hd n κ)) = ix3 b hd n := funext fun a => by match a with | ⟨0, _⟩ => rfl | ⟨1, _⟩ => rfl | ⟨2, _⟩ => rfl
  rw [val_main_v50_apply, val_main_v49_apply, val_main_v48_apply, val_main_v47_apply, val_main_v46_apply, val_main_v45_apply, val_main_cst_7_apply, e, max_at]
  generalize val_main_v43 (F := Ideal) x0 x1 x2 x3 x4 x5 x6 x7 x8 = y
  have e2 : FloatOps.maximumf (F := Ideal) (φ := .f32) (FloatOps.ofBits .f32 0xFF800000#32) (rowMax fun κ => y (ix4 b hd n κ)) = rowMax fun κ => y (ix4 b hd n κ) := by
    show max (Ideal.ofBits .f32 4286578688#32) (rowMax fun κ => y (ix4 b hd n κ)) = _
    rw [bot_bits, max_eq_right bot_le]
  rw [e2]
  rfl

/-- The memory attention's mean. -/
theorem att_at (p : Fin 32768) (e : Fin 1024) : val_main_v58 (F := Ideal) x0 x1 x2 x3 x4 x5 x6 x7 x8 x9 (ix2 p e)
    = ∑ κ : Fin 256, x9 (ix3 ⟨p.val / 4096, by omega⟩ κ e) * Ideal.div (val_main_v50 (F := Ideal) x0 x1 x2 x3 x4 x5 x6 x7 x8 (ix4 ⟨p.val / 4096, by omega⟩ ⟨e.val / 256, by omega⟩ ⟨p.val % 4096, by omega⟩ κ))
        (∑ κ', val_main_v50 (F := Ideal) x0 x1 x2 x3 x4 x5 x6 x7 x8 (ix4 ⟨p.val / 4096, by omega⟩ ⟨e.val / 256, by omega⟩ ⟨p.val % 4096, by omega⟩ κ')) := by
  unfold val_main_v58 val_main_v57 val_main_v56 val_main_v54 val_main_v53 val_main_v52 val_main_v51
  generalize val_main_v50 (F := Ideal) x0 x1 x2 x3 x4 x5 x6 x7 x8 = y
  pointwise [val_main_v55, val_main_v4, val_main_cst_8]

/-- The last norm's argument. -/
theorem out0_at (p : Fin 32768) (l : Fin 1024) : val_main_v59 (F := Ideal) x0 x1 x2 x3 x4 x5 x6 x7 x8 x9 x10 (ix2 p l)
    = ∑ e : Fin 1024, val_main_v58 (F := Ideal) x0 x1 x2 x3 x4 x5 x6 x7 x8 x9 (ix2 p e) * x10 (ix2 e l) := by
  unfold val_main_v59
  generalize val_main_v58 (F := Ideal) x0 x1 x2 x3 x4 x5 x6 x7 x8 x9 = y
  pointwise

/-- The result. -/
theorem res_at (p : Fin 32768) (l : Fin 1024) : val_main_v73 (F := Ideal) x0 x1 x2 x3 x4 x5 x6 x7 x8 x9 x10 x11 (ix2 p l)
    = val_main_v23 (F := Ideal) x0 x1 x2 x3 x4 x5 (ix2 p l)
      + rmsAt len (fun j => val_main_v59 (F := Ideal) x0 x1 x2 x3 x4 x5 x6 x7 x8 x9 x10 (ix2 p j)) (fun k => x11 (ix1 k)) l := by
  unfold val_main_v73 val_main_v72 val_main_v69 val_main_v68 val_main_v67 val_main_v66 val_main_v64 val_main_v62 val_main_v61 val_main_v60
  generalize val_main_v59 (F := Ideal) x0 x1 x2 x3 x4 x5 x6 x7 x8 x9 x10 = y
  generalize val_main_v23 (F := Ideal) x0 x1 x2 x3 x4 x5 = z
  pointwise [val_main_v63, val_main_v65, val_main_v70, val_main_v71, val_main_cst_9, val_main_cst_10, val_main_cst_11, rmsAt, len]

/-- The first projection, the three mixers apart. -/
theorem mix_at (p : Fin 32768) (l : Fin 1024) : val_main_v9 (F := Ideal) x1 x2 x3 x4 (ix2 p l)
    = mixAt (fun k => x1 (ix2 p k)) (fun k => x2 (ix2 p ⟨128 * (k.val / 64) + k.val % 64, by omega⟩)) (fun k => x3 (ix2 p k)) (fun k l => x4 (ix2 k l)) l := by
  rw [mix0_at]
  have e := cat_at x1 x2 x3 p
  generalize val_main_v8 (F := Ideal) x1 x2 x3 = y at *
  simp only [e]
  unfold mixAt
  have s1 := Fin.sum_univ_add (a := 512) (b := 512) (fun k : Fin 1024 => (if h : k.val < 512 then x1 (ix2 p ⟨k.val, h⟩) else if h : k.val - 512 < 256 then x2 (ix2 p ⟨128 * ((k.val - 512) / 64) + (k.val - 512) % 64, by omega⟩)
      else x3 (ix2 p ⟨k.val - 512 - 256, by omega⟩) : EReal) * x4 (ix2 k l))
  have s2 := Fin.sum_univ_add (a := 256) (b := 256) (fun k : Fin 512 => (if h : k.val < 256 then x2 (ix2 p ⟨128 * (k.val / 64) + k.val % 64, by omega⟩)
      else x3 (ix2 p ⟨k.val - 256, by omega⟩) : EReal) * x4 (ix2 ⟨512 + k.val, by omega⟩ l))
  refine s1.trans ?_
  rw [add_assoc]
  refine congrArg₂ (· + ·) (Finset.sum_congr rfl fun k _ => ?_) ?_
  · have hk := k.isLt
    simp only [Fin.val_castAdd, hk, dite_true]
    rfl
  · refine Eq.trans (Finset.sum_congr rfl fun k _ => ?_) (s2.trans (congrArg₂ (· + ·) (Finset.sum_congr rfl fun k _ => ?_) (Finset.sum_congr rfl fun k _ => ?_)))
    · simp only [Fin.val_natAdd, Nat.add_sub_cancel_left, show ¬(512 + k.val < 512) by omega, dite_false]
      rfl
    · have hk := k.isLt
      simp only [Fin.val_castAdd, hk, dite_true]
    · simp only [Fin.val_natAdd, Nat.add_sub_cancel_left, show ¬(256 + k.val < 256) by omega, dite_false]
      congr 3
      apply Fin.ext
      show 512 + (256 + k.val) = 768 + k.val
      omega

/-- The memory attention's mean is the specification's. -/
theorem smx_at (p : Fin 32768) (e : Fin 1024) : val_main_v58 (F := Ideal) x0 x1 x2 x3 x4 x5 x6 x7 x8 x9 (ix2 p e)
    = smx (scAt (fun k => val_main_v37 (F := Ideal) x0 x1 x2 x3 x4 x5 x6 x7 (ix2 p k)) (fun k j => x8 (ix3 ⟨p.val / 4096, by omega⟩ k j)) ⟨e.val / 256, by omega⟩)
        (fun κ => x9 (ix3 ⟨p.val / 4096, by omega⟩ κ e)) := by
  rw [att_at]
  unfold smx
  have hp : (⟨4096 * (p.val / 4096) + p.val % 4096, by omega⟩ : Fin 32768) = p := Fin.ext (Nat.div_add_mod _ _)
  have hs : ∀ κ, val_main_v43 (F := Ideal) x0 x1 x2 x3 x4 x5 x6 x7 x8 (ix4 ⟨p.val / 4096, by omega⟩ ⟨e.val / 256, by omega⟩ ⟨p.val % 4096, by omega⟩ κ)
      = scAt (fun k => val_main_v37 (F := Ideal) x0 x1 x2 x3 x4 x5 x6 x7 (ix2 p k)) (fun k j => x8 (ix3 ⟨p.val / 4096, by omega⟩ k j)) ⟨e.val / 256, by omega⟩ κ := fun κ => by
    rw [sc_at]
    simp only [hp]
  simp only [exp_at, hs]
  exact Finset.sum_congr rfl fun κ _ => mul_comm _ _

/-- The reference's result at an index. -/
theorem out_at (p : Fin 32768) (l : Fin 1024) : val_main_v73 (F := Ideal) x0 x1 x2 x3 x4 x5 x6 x7 x8 x9 x10 x11 (ix2 p l)
    = G x0 x1 x2 x3 x4 x5 x6 x7 x8 x9 x10 x11 (ix2 p l) := by
  have hh : ∀ l, val_main_v23 (F := Ideal) x0 x1 x2 x3 x4 x5 (ix2 p l) = rowH x0 x1 x2 x3 x4 x5 p l := fun l => by
    rw [h1_at]; unfold rowH; simp only [mix_at]
  have hq : ∀ l, val_main_v37 (F := Ideal) x0 x1 x2 x3 x4 x5 x6 x7 (ix2 p l) = qAt (rowH x0 x1 x2 x3 x4 x5 p) (fun k => x6 (ix1 k)) (fun k j => x7 (ix2 k j)) l := fun l => by
    rw [q_at]; simp only [hh]
  rw [res_at, hh]
  simp only [out0_at, smx_at, hq]
  rfl

end Cert.PostRefIdeal.Own
end
-- ==== Proof.PostRefRun.lean ====
/-  The post reference's run. -/
module

public import proofs.«01_k».proof.Proof.PostRefValue

@[expose] public section
set_option maxRecDepth 16384
noncomputable section
open Idealize.ShloMosaic Idealize.ShloMosaic.TcCoe Idealize.SL.Sem
namespace Cert.PostRefIdeal.Own
open Cert.PostRefIdeal Cert.PostRefIdeal.Gen Cert.PostRefIdeal.Read Cert.Own
open Idealize.ShloMosaic.StableHlo

/-- The reference's run: its result is the same function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v73) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) :=
  (θ_run defs _ _).mono (fun _ h c => ⟨(h c).1.trans ((val_main_v73_eq (launchContents m c)).trans (funext fun j => by
    idx_vars j
    exact out_at _ _ _ _ _ _ _ _ _ _ _ _ j0 j1)), (h c).2⟩)
    (Value.run m ρ)

end Cert.PostRefIdeal.Own
end
-- ==== Proof.PostPay.lean ====
/-  The payloads of the post kernel, place by place. -/
module

public import proofs.«01_k».proof.Proof.PostSpec
public import proofs.«01_k».proof.Proof.Gen.PostIdeal.Value
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.PostIdeal.Own
open Cert.PostIdeal Cert.PostIdeal.Gen Cert.Own

variable (m : (ℓ : Loc nD τ sig) → Buf (Elt Ideal) ℓ) (ρ : Dev nD → PrngReg)

/-- One head's payloads at a place: scores. -/
theorem h1_at (v0 : Vec Ideal S512x512 .bf16) (v1 : Vec Ideal S512x1024 .bf16) (v4 : Vec Ideal S512x512 .bf16) (v5 : Vec Ideal S512x1024 .bf16)
    (v9 : Vec Ideal S512x256 .bf16) (v10 : Vec Ideal S256x1024 .bf16) (v14 : Vec Ideal S512x1024 .f32) (v15 : Vec Ideal S1x1024 .f32) (r : Fin 512) (l : Fin 1024) :
    k0_pay2 (F := Ideal) v0 v1 v4 v5 v9 v10 v14 v15 (ix2 r l)
      = h1At (fun k => v14 (ix2 r k)) (fun j => ∑ k, v0 (ix2 r k) * v1 (ix2 k j) + ∑ k, v4 (ix2 r k) * v5 (ix2 k j) + ∑ k, v9 (ix2 r k) * v10 (ix2 k j))
          (fun k => v15 (ix2 0 k)) l := by
  pointwise [k0_pay2, h1At, rmsAt, len]

/-- The scaled queries. -/
theorem q_at (v29 : FVec Ideal S512x1024 .f32) (v31 : FVec Ideal S1x1024 .f32) (v45 : Vec Ideal S1024x1024 .bf16) (r : Fin 512) (l : Fin 1024) :
    k0_pay5 (F := Ideal) v29 v31 (mulf v29 v29) v45 (ix2 r l)
      = qAt (fun k => v29 (ix2 r k)) (fun k => v31 (ix2 0 k)) (fun k j => v45 (ix2 k j)) l * xaScale := by
  pointwise [k0_pay5, qAt, rmsAt, len, xaScale]

/-- The first head's scores. -/
theorem s0_at (v29 : FVec Ideal S512x1024 .f32) (v31 : FVec Ideal S1x1024 .f32) (v32 : FVec Ideal S512x1024 .f32) (v45 : Vec Ideal S1024x1024 .bf16) (v52 : Vec Ideal S1x256x256 .bf16)
    (r : Fin 512) (l : Fin 256) :
    k0_pay6 (F := Ideal) v29 v31 v32 v45 v52 (ix2 r l) = ∑ d : Fin 256, k0_pay5 (F := Ideal) v29 v31 v32 v45 (ix2 r ⟨d.val, by omega⟩) * v52 (ix3 0 d l) := by
  unfold k0_pay6
  generalize k0_pay5 (F := Ideal) v29 v31 v32 v45 = y
  pointwise
/-- The second head's scores. -/
theorem s1_at (v29 : FVec Ideal S512x1024 .f32) (v31 : FVec Ideal S1x1024 .f32) (v32 : FVec Ideal S512x1024 .f32) (v45 : Vec Ideal S1024x1024 .bf16) (v52 : Vec Ideal S1x256x256 .bf16)
    (r : Fin 512) (l : Fin 256) :
    k0_pay7 (F := Ideal) v29 v31 v32 v45 v52 (ix2 r l) = ∑ d : Fin 256, k0_pay5 (F := Ideal) v29 v31 v32 v45 (ix2 r ⟨256 + d.val, by omega⟩) * v52 (ix3 0 d l) := by
  unfold k0_pay7
  generalize k0_pay5 (F := Ideal) v29 v31 v32 v45 = y
  pointwise
/-- The third head's scores. -/
theorem s2_at (v29 : FVec Ideal S512x1024 .f32) (v31 : FVec Ideal S1x1024 .f32) (v32 : FVec Ideal S512x1024 .f32) (v45 : Vec Ideal S1024x1024 .bf16) (v52 : Vec Ideal S1x256x256 .bf16)
    (r : Fin 512) (l : Fin 256) :
    k0_pay8 (F := Ideal) v29 v31 v32 v45 v52 (ix2 r l) = ∑ d : Fin 256, k0_pay5 (F := Ideal) v29 v31 v32 v45 (ix2 r ⟨512 + d.val, by omega⟩) * v52 (ix3 0 d l) := by
  unfold k0_pay8
  generalize k0_pay5 (F := Ideal) v29 v31 v32 v45 = y
  pointwise
/-- The last head's scores. -/
theorem s3_at (v29 : FVec Ideal S512x1024 .f32) (v31 : FVec Ideal S1x1024 .f32) (v32 : FVec Ideal S512x1024 .f32) (v45 : Vec Ideal S1024x1024 .bf16) (v52 : Vec Ideal S1x256x256 .bf16)
    (r : Fin 512) (l : Fin 256) :
    k0_pay9 (F := Ideal) v29 v31 v32 v45 v52 (ix2 r l) = ∑ d : Fin 256, k0_pay5 (F := Ideal) v29 v31 v32 v45 (ix2 r ⟨768 + d.val, by omega⟩) * v52 (ix3 0 d l) := by
  unfold k0_pay9
  generalize k0_pay5 (F := Ideal) v29 v31 v32 v45 = y
  pointwise

/-- The first head's maximum, spread over the row. -/
theorem m0_at (v29 : FVec Ideal S512x1024 .f32) (v31 : FVec Ideal S1x1024 .f32) (v32 : FVec Ideal S512x1024 .f32) (v45 : Vec Ideal S1024x1024 .bf16) (v52 : Vec Ideal S1x256x256 .bf16)
    (r : Fin 512) (l : Fin 256) :
    k0_pay10 (F := Ideal) v29 v31 v32 v45 v52 (ix2 r l) = rowMax (fun k => k0_pay6 (F := Ideal) v29 v31 v32 v45 v52 (ix2 r k)) := by
  unfold k0_pay10
  generalize k0_pay6 (F := Ideal) v29 v31 v32 v45 v52 = y
  unfold rowMax
  rw [← bot_bits]
  pointwise
/-- The second head's weights. -/
theorem e1_at (v : FVec Ideal S512x256 .f32) (r : Fin 512) (l : Fin 256) :
    k0_pay11 (F := Ideal) v (ix2 r l) = Ideal.exp (v (ix2 r l) - rowMax (fun k => v (ix2 r k))) := by
  unfold rowMax
  rw [← bot_bits]
  pointwise [k0_pay11]
/-- The third head's weights. -/
theorem e2_at (v : FVec Ideal S512x256 .f32) (r : Fin 512) (l : Fin 256) :
    k0_pay12 (F := Ideal) v (ix2 r l) = Ideal.exp (v (ix2 r l) - rowMax (fun k => v (ix2 r k))) := by
  unfold rowMax
  rw [← bot_bits]
  pointwise [k0_pay12]
/-- The last head's weights. -/
theorem e3_at (v : FVec Ideal S512x256 .f32) (r : Fin 512) (l : Fin 256) :
    k0_pay13 (F := Ideal) v (ix2 r l) = Ideal.exp (v (ix2 r l) - rowMax (fun k => v (ix2 r k))) := by
  unfold rowMax
  rw [← bot_bits]
  pointwise [k0_pay13]

/-- The second head's weighted values. -/
theorem n1_at (v : FVec Ideal S512x256 .f32) (w : Vec Ideal S1x256x256 .bf16) (r : Fin 512) (l : Fin 256) :
    k0_pay14 (F := Ideal) v w (ix2 r l) = ∑ k, k0_pay11 (F := Ideal) v (ix2 r k) * w (ix3 0 k l) := by
  unfold k0_pay14
  generalize k0_pay11 (F := Ideal) v = y
  pointwise
/-- The third head's weighted values. -/
theorem n2_at (v : FVec Ideal S512x256 .f32) (w : Vec Ideal S1x256x256 .bf16) (r : Fin 512) (l : Fin 256) :
    k0_pay15 (F := Ideal) v w (ix2 r l) = ∑ k, k0_pay12 (F := Ideal) v (ix2 r k) * w (ix3 0 k l) := by
  unfold k0_pay15
  generalize k0_pay12 (F := Ideal) v = y
  pointwise
/-- The last head's weighted values. -/
theorem n3_at (v : FVec Ideal S512x256 .f32) (w : Vec Ideal S1x256x256 .bf16) (r : Fin 512) (l : Fin 256) :
    k0_pay16 (F := Ideal) v w (ix2 r l) = ∑ k, k0_pay13 (F := Ideal) v (ix2 r k) * w (ix3 0 k l) := by
  unfold k0_pay16
  generalize k0_pay13 (F := Ideal) v = y
  pointwise
/-- The first head's mean. -/
theorem o0_at (v mx : FVec Ideal S512x256 .f32) (w : Vec Ideal S1x256x256 .bf16) (r : Fin 512) (l : Fin 256) :
    k0_pay17 (F := Ideal) v mx w (ix2 r l) = Ideal.div (∑ k, Ideal.exp (v (ix2 r k) - mx (ix2 r k)) * w (ix3 0 k l)) (∑ k, Ideal.exp (v (ix2 r k) - mx (ix2 r k))) := by
  pointwise [k0_pay17]
/-- The second head's denominators. -/
theorem d1_at (v : FVec Ideal S512x256 .f32) (r : Fin 512) : k0_pay18 (F := Ideal) v (ix1 r) = ∑ k, k0_pay11 (F := Ideal) v (ix2 r k) := by
  unfold k0_pay18
  generalize k0_pay11 (F := Ideal) v = y
  pointwise

/-- The stored value from the four heads' means. -/
theorem pay1_at (v29 : FVec Ideal S512x1024 .f32) (v81 v86 v94 v98 v102 v107 : FVec Ideal S512x256 .f32) (v108 : FVec Ideal S512 .f32) (v124 : Vec Ideal S1024x1024 .bf16)
    (v127 : Vec Ideal S1x1024 .f32) (r : Fin 512) (l : Fin 1024) (o : Fin 4 → Fin 256 → EReal)
    (h0 : ∀ k, v107 (ix2 r k) = o 0 k) (h1 : ∀ k, Ideal.div (v94 (ix2 r k)) (v108 (ix1 r)) = o 1 k)
    (h2 : ∀ k, Ideal.div (v98 (ix2 r k)) (∑ j, v81 (ix2 r j)) = o 2 k) (h3 : ∀ k, Ideal.div (v102 (ix2 r k)) (∑ j, v86 (ix2 r j)) = o 3 k) :
    k0_pay1 (F := Ideal) v29 v81 v86 v94 v98 v102 v107 v108 v124 v127 (ix2 r l)
      = v29 (ix2 r l) + rmsAt len (fun j => ∑ e : Fin 1024, o ⟨e.val / 256, by omega⟩ ⟨e.val % 256, by omega⟩ * v124 (ix2 e j)) (fun k => v127 (ix2 0 k)) l := by
  have hc : ∀ e : Fin 1024, (if h : e.val < 256 then v107 (ix2 r ⟨e.val, h⟩)
      else if h : e.val - 256 < 256 then Ideal.div (v94 (ix2 r ⟨e.val - 256, h⟩)) (v108 (ix1 r))
      else if h : e.val - 256 - 256 < 256 then Ideal.div (v98 (ix2 r ⟨e.val - 256 - 256, h⟩)) (∑ j, v81 (ix2 r j))
      else Ideal.div (v102 (ix2 r ⟨e.val - 256 - 256 - 256, by omega⟩)) (∑ j, v86 (ix2 r j))) = o ⟨e.val / 256, by omega⟩ ⟨e.val % 256, by omega⟩ := by
    intro e
    split_ifs with a b c
    · rw [h0]; congr 1 <;> first | (congr 1; apply Fin.ext; show _ = _; simp; omega) | (apply Fin.ext; show _ = _; simp; omega)
    · rw [h1]; congr 1 <;> first | (congr 1; apply Fin.ext; show _ = _; simp; omega) | (apply Fin.ext; show _ = _; simp; omega)
    · rw [h2]; congr 1 <;> first | (congr 1; apply Fin.ext; show _ = _; simp; omega) | (apply Fin.ext; show _ = _; simp; omega)
    · rw [h3]; congr 1 <;> first | (congr 1; apply Fin.ext; show _ = _; simp; omega) | (apply Fin.ext; show _ = _; simp; omega)
  pointwise [k0_pay1, rmsAt, len]
  simp only [hc]

end Cert.PostIdeal.Own
end
-- ==== Proof.PostTable.lean ====
/-  The tables by which the attention's rows of the output projection are spread to 128 lanes a head. -/
module

public import proofs.«01_k».proof.Proof.Spec
public import proofs.«01_k».proof.Proof.Gen.PostIdeal.Value
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.PostIdeal.Own
open Cert.PostIdeal Cert.PostIdeal.Gen Cert.Own

/-- The row of the projection that each of the attention's 512 lanes takes, before the lanes past a head's 64 are cleared. -/
def rowIdx : IVec S512x1 32 := broadcastInDim S512x1 ![0] bcast_S512_S512x1_0
  (select (cmpi .slt (fun i => lit1 (S512.rowMajor i)) (broadcastInDim S512 ![] bcast_S_S512 (constantI S_ 32 0#32)))
    (addi (fun i => lit1 (S512.rowMajor i)) (broadcastInDim S512 ![] bcast_S_S512 (constantI S_ 32 1024#32))) (fun i => lit1 (S512.rowMajor i)))

/-- Which of those rows lie inside the projection. -/
def rowOk : IVec S512 1 := Host.reduce IntOp.andi
  (andi (cmpi .sge rowIdx (broadcastInDim S512x1 ![] bcast_S_S512x1 (constantI S_ 32 0#32)))
    (cmpi .sle rowIdx (broadcastInDim S512x1 ![0, 1] bcast_S1x1_S512x1_0_1 (broadcastInDim S1x1 ![1] bcast_S1_S1x1_1 (constantI S1 32 1023#32)))))
  (constantI S_ 1 1#1) reducesTo_S512x1_S512_d1 h_S_

/-- The spread weights, transposed, from the projection `w`. -/
def spread (w : FVec Ideal S1024x1024 .f32) : FVec Ideal S1024x512 .f32 :=
  select (broadcastInDim S1024x512 ![1] bcast_S512_S1024x512_1 (fun i => lit0 (S512.rowMajor i)))
    (select (broadcastInDim S1024x512 ![1] bcast_S512_S1024x512_1 rowOk)
      (Host.gather gather_S1024x1024_S512x1_S1024x512_0_1_n_n_1_1_10241 (transpose S1024x1024 [1, 0] w transposes_S1024x1024_S1024x1024_1_0) rowIdx)
      (broadcastInDim S1024x512 ![] bcast_S_S1024x512 (constant S_ .f32 0x7FC00000#32)))
    (broadcastInDim S1024x512 ![] bcast_S_S1024x512 (constant S_ .f32 0x00000000#32))

/-- The rows taken: a head's 64, and row 0 past them. -/
theorem rowIdx_at : ∀ k : Fin 512, rowIdx (ix2 k 0) = BitVec.ofNat 32 (if k.val % 128 < 64 then 512 + 64 * (k.val / 128) + k.val % 128 else 0) := by
  decide +kernel

/-- All of them lie inside. -/
theorem rowOk_at : ∀ k : Fin 512, rowOk (ix1 k) = 1#1 := by
  decide +kernel

/-- The lanes kept: a head's first 64. -/
theorem keep_at : ∀ k : Fin 512, lit0 (S512.rowMajor (ix1 k)) = if k.val % 128 < 64 then 1#1 else 0#1 := by
  decide +kernel

end Cert.PostIdeal.Own
end
-- ==== Proof.PostHost.lean ====
/-  The weights of the output projection as the kernel takes them: its rows for the attention spread to 128 lanes a head. -/
module

public import proofs.«01_k».proof.Proof.PostTable
public import proofs.«01_k».proof.Proof.Gen.PostIdeal.Value
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.PostIdeal.Own
open Cert.PostIdeal Cert.PostIdeal.Gen Cert.Own

variable (m : (ℓ : Loc nD τ sig) → Buf (Elt Ideal) ℓ) (ρ : Dev nD → PrngReg)

/-- The weights before the attention's lanes. -/
theorem v1_eq (c : Dev nD) : V m c main_v1 = (truncf .bf16 (extractStridedSlice S512x1024 ![0, 0] (m ((c : Thread nD τ).loc main_arg4)) slices_S1024x1024_S512x1024_0_0) bitsLt_bf16_f32 : FVec Ideal S512x1024 .bf16) := by
  unfold_abbrev_sides
  simp only [hostOps0, hostOps0_1, hostOps0_2, hostOps0_3, hostOps0_4, List.flatten_cons, List.flatten_nil, List.append_nil, List.cons_append, List.nil_append]
  after_results

/-- The attention's weights. -/
theorem v6_eq (c : Dev nD) : V m c main_v6 = (truncf .bf16 (transpose S512x1024 [1, 0] (spread (m ((c : Thread nD τ).loc main_arg4))) transposes_S1024x512_S512x1024_1_0) bitsLt_bf16_f32 : FVec Ideal S512x1024 .bf16) := by
  unfold_abbrev_sides
  simp only [hostOps0, hostOps0_1, hostOps0_2, hostOps0_3, hostOps0_4, List.flatten_cons, List.flatten_nil, List.append_nil, List.cons_append, List.nil_append]
  after_results
  rfl

/-- The weights after them. -/
theorem v8_eq (c : Dev nD) : V m c main_v8 = (truncf .bf16 (extractStridedSlice S256x1024 ![768, 0] (m ((c : Thread nD τ).loc main_arg4)) slices_S1024x1024_S256x1024_768_0) bitsLt_bf16_f32 : FVec Ideal S256x1024 .bf16) := by
  unfold_abbrev_sides
  simp only [hostOps0, hostOps0_1, hostOps0_2, hostOps0_3, hostOps0_4, List.flatten_cons, List.flatten_nil, List.append_nil, List.cons_append, List.nil_append]
  after_results

/-- The first norm's weights. -/
theorem v9_eq (c : Dev nD) : V m c main_v9 = (broadcastInDim S1x1024 ![1] bcast_S1024_S1x1024_1 (m ((c : Thread nD τ).loc main_arg5)) : FVec Ideal S1x1024 .f32) := by
  unfold_abbrev_sides
  simp only [hostOps0, hostOps0_1, hostOps0_2, hostOps0_3, hostOps0_4, List.flatten_cons, List.flatten_nil, List.append_nil, List.cons_append, List.nil_append]
  after_results

/-- The second norm's weights. -/
theorem v10_eq (c : Dev nD) : V m c main_v10 = (broadcastInDim S1x1024 ![1] bcast_S1024_S1x1024_1 (m ((c : Thread nD τ).loc main_arg6)) : FVec Ideal S1x1024 .f32) := by
  unfold_abbrev_sides
  simp only [hostOps0, hostOps0_1, hostOps0_2, hostOps0_3, hostOps0_4, List.flatten_cons, List.flatten_nil, List.append_nil, List.cons_append, List.nil_append]
  after_results

/-- The query weights. -/
theorem v11_eq (c : Dev nD) : V m c main_v11 = (truncf .bf16 (m ((c : Thread nD τ).loc main_arg7)) bitsLt_bf16_f32 : FVec Ideal S1024x1024 .bf16) := by
  unfold_abbrev_sides
  simp only [hostOps0, hostOps0_1, hostOps0_2, hostOps0_3, hostOps0_4, List.flatten_cons, List.flatten_nil, List.append_nil, List.cons_append, List.nil_append]
  after_results

/-- The weights after the memory attention. -/
theorem v12_eq (c : Dev nD) : V m c main_v12 = (truncf .bf16 (m ((c : Thread nD τ).loc main_arg10)) bitsLt_bf16_f32 : FVec Ideal S1024x1024 .bf16) := by
  unfold_abbrev_sides
  simp only [hostOps0, hostOps0_1, hostOps0_2, hostOps0_3, hostOps0_4, List.flatten_cons, List.flatten_nil, List.append_nil, List.cons_append, List.nil_append]
  after_results

/-- The last norm's weights. -/
theorem v13_eq (c : Dev nD) : V m c main_v13 = (broadcastInDim S1x1024 ![1] bcast_S1024_S1x1024_1 (m ((c : Thread nD τ).loc main_arg11)) : FVec Ideal S1x1024 .f32) := by
  unfold_abbrev_sides
  simp only [hostOps0, hostOps0_1, hostOps0_2, hostOps0_3, hostOps0_4, List.flatten_cons, List.flatten_nil, List.append_nil, List.cons_append, List.nil_append]
  after_results

/-- The gather takes the row named. -/
theorem gather_at (x : FVec Ideal S1024x1024 .f32) (l : Fin 1024) (k : Fin 512) (n : Fin 1024) (hn : rowIdx (ix2 k 0) = BitVec.ofNat 32 n.val) :
    Host.gather gather_S1024x1024_S512x1_S1024x512_0_1_n_n_1_1_10241 x rowIdx (ix2 l k) = x (ix2 l n) := by
  unfold Host.gather
  congr 1
  funext a
  apply Fin.ext
  have hk0 : (0 : Fin S1024x1024.rank) ∈ gather_S1024x1024_S512x1_S1024x512_0_1_n_n_1_1_10241.sKept := by decide
  have hk1 : (1 : Fin S1024x1024.rank) ∉ gather_S1024x1024_S512x1_S1024x512_0_1_n_n_1_1_10241.sKept := by decide
  have hm0 : (0 : Fin S1024x1024.rank) ∉ gather_S1024x1024_S512x1_S1024x512_0_1_n_n_1_1_10241.startIndexMap := by decide
  have hm1 : (1 : Fin S1024x1024.rank) ∈ gather_S1024x1024_S512x1_S1024x512_0_1_n_n_1_1_10241.startIndexMap := by decide
  have hb : ∀ a, a ∉ gather_S1024x1024_S512x1_S1024x512_0_1_n_n_1_1_10241.operandBatchingDims := fun a => List.not_mem_nil
  match a with
  | ⟨0, _⟩ =>
    show GatherDims.start _ _ _ 0 + GatherDims.batchCoord _ _ 0 + GatherDims.offCoord _ _ 0 = l.val
    rw [GatherDims.batchCoord_eq_zero _ _ _ (hb _)]
    unfold GatherDims.start GatherDims.offCoord
    rw [dif_neg hm0, dif_pos hk0]
    simp only [Nat.zero_add]
    rfl
  | ⟨1, _⟩ =>
    show GatherDims.start _ _ _ 1 + GatherDims.batchCoord _ _ 1 + GatherDims.offCoord _ _ 1 = n.val
    rw [GatherDims.batchCoord_eq_zero _ _ _ (hb _), GatherDims.offCoord_eq_zero _ _ _ hk1]
    unfold GatherDims.start
    rw [dif_pos hm1]
    have e : gather_S1024x1024_S512x1_S1024x512_0_1_n_n_1_1_10241.siIdx (ix2 l k) ⟨List.idxOf 1 gather_S1024x1024_S512x1_S1024x512_0_1_n_n_1_1_10241.startIndexMap,
        List.idxOf_lt_length_iff.2 hm1⟩ = ix2 k 0 := by
      funext b
      match b with
      | ⟨0, _⟩ => exact Fin.ext rfl
      | ⟨1, _⟩ => exact Fin.ext rfl
    rw [e, hn]
    have h1 : (BitVec.ofNat 32 n.val).toInt.toNat = n.val := by
      rw [BitVec.toInt_eq_toNat_of_lt (by rw [BitVec.toNat_ofNat]; omega), BitVec.toNat_ofNat]; omega
    rw [h1]
    show min n.val (1024 - 1) + 0 + 0 = n.val
    omega

/-- The spread weights at a lane: a head's 64, zero past them. -/
theorem spread_at (w : FVec Ideal S1024x1024 .f32) (l : Fin 1024) (k : Fin 512) : spread w (ix2 l k)
    = if hk : k.val % 128 < 64 then w (ix2 ⟨512 + 64 * (k.val / 128) + k.val % 128, by omega⟩ l) else 0 := by
  have e : spread w (ix2 l k) = Scalar.select (lit0 (S512.rowMajor (ix1 k))) (Scalar.select (rowOk (ix1 k))
      (Host.gather gather_S1024x1024_S512x1_S1024x512_0_1_n_n_1_1_10241 (transpose S1024x1024 [1, 0] w transposes_S1024x1024_S1024x1024_1_0) rowIdx (ix2 l k))
      (Ideal.ofBits .f32 0x7FC00000#32)) (Ideal.ofBits .f32 0#32) := by
    unfold spread
    generalize Host.gather gather_S1024x1024_S512x1_S1024x512_0_1_n_n_1_1_10241 (transpose S1024x1024 [1, 0] w transposes_S1024x1024_S1024x1024_1_0) rowIdx = g
    generalize rowOk = ok
    pointwise
  rw [e, keep_at, rowOk_at]
  by_cases hk : k.val % 128 < 64
  · rw [if_pos hk, dif_pos hk, gather_at _ l k ⟨512 + 64 * (k.val / 128) + k.val % 128, by omega⟩ (by rw [rowIdx_at, if_pos hk])]
    pointwise
  · rw [if_neg hk, dif_neg hk]
    show Ideal.ofBits .f32 0#32 = 0
    simp [Ideal.ofBits, Ideal.ieee]

end Cert.PostIdeal.Own
end
-- ==== Proof.PostHeads.lean ====
/-  The value the post kernel stores, from its heads. -/
module

public import proofs.«01_k».proof.Proof.PostPay
public import proofs.«01_k».proof.Proof.PostHost
public import proofs.«01_k».proof.Proof.Gen.PostIdeal.Value
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.PostIdeal.Own
open Cert.PostIdeal Cert.PostIdeal.Gen Cert.Own

variable (m : (ℓ : Loc nD τ sig) → Buf (Elt Ideal) ℓ) (ρ : Dev nD → PrngReg)

/-- A head's lane. -/
def lane (hd : Fin 4) (d : Fin 256) : Fin 1024 := ⟨256 * hd.val + d.val, by omega⟩

/-- The value stored, from the four heads' scores and values. -/
theorem heads_at (v29 : FVec Ideal S512x1024 .f32) (s0 s1 s2 s3 mx : FVec Ideal S512x256 .f32) (V0 V1 V2 V3 : Vec Ideal S1x256x256 .bf16)
    (wo : Vec Ideal S1024x1024 .bf16) (gp : Vec Ideal S1x1024 .f32) (v : Fin 256 → Fin 1024 → EReal) (S : Fin 4 → Fin 256 → EReal) (r : Fin 512) (l : Fin 1024)
    (t0 : ∀ k, s0 (ix2 r k) = S 0 k) (t1 : ∀ k, s1 (ix2 r k) = S 1 k) (t2 : ∀ k, s2 (ix2 r k) = S 2 k) (t3 : ∀ k, s3 (ix2 r k) = S 3 k)
    (hm : ∀ k, mx (ix2 r k) = rowMax (S 0))
    (hV0 : ∀ m d, V0 (ix3 0 m d) = v m (lane 0 d)) (hV1 : ∀ m d, V1 (ix3 0 m d) = v m (lane 1 d))
    (hV2 : ∀ m d, V2 (ix3 0 m d) = v m (lane 2 d)) (hV3 : ∀ m d, V3 (ix3 0 m d) = v m (lane 3 d)) :
    k0_pay1 (F := Ideal) v29 (k0_pay12 s2) (k0_pay13 s3) (k0_pay14 s1 V1) (k0_pay15 s2 V2) (k0_pay16 s3 V3) (k0_pay17 s0 mx V0) (k0_pay18 s1) wo gp (ix2 r l)
      = v29 (ix2 r l) + rmsAt len (fun j => ∑ e : Fin 1024, kmx (S ⟨e.val / 256, by omega⟩) (fun m => v m e) * wo (ix2 e j)) (fun k => gp (ix2 0 k)) l := by
  have he : ∀ e : Fin 1024, (fun m => v m e) = fun m => v m (lane ⟨e.val / 256, by omega⟩ ⟨e.val % 256, by omega⟩) := fun e => by
    rw [show lane ⟨e.val / 256, by omega⟩ ⟨e.val % 256, by omega⟩ = e from Fin.ext (Nat.div_add_mod _ _)]
  rw [pay1_at v29 (k0_pay12 s2) (k0_pay13 s3) (k0_pay14 s1 V1) (k0_pay15 s2 V2) (k0_pay16 s3 V3) (k0_pay17 s0 mx V0) (k0_pay18 s1) wo gp r l
    (fun hd d => kmx (S hd) (fun m => v m (lane hd d)))]
  · refine congrArg (fun f => v29 (ix2 r l) + rmsAt len f (fun k => gp (ix2 0 k)) l) (funext fun j => Finset.sum_congr rfl fun e _ => ?_)
    exact congrArg (fun f => kmx (S ⟨e.val / 256, by omega⟩) f * wo (ix2 e j)) (he e).symm
  · intro k
    rw [o0_at]; unfold kmx; simp only [hm, t0, hV0]
  · intro k
    rw [n1_at, d1_at]; unfold kmx; simp only [e1_at, t1, hV1]
  · intro k
    rw [n2_at]; unfold kmx; simp only [e2_at, t2, hV2]
  · intro k
    rw [n3_at]; unfold kmx; simp only [e3_at, t3, hV3]

/-- The value stored, from the residual row, the queries and the blocks of keys and values. -/
theorem core_at (v29 v32 : FVec Ideal S512x1024 .f32) (v31 : FVec Ideal S1x1024 .f32) (wq : Vec Ideal S1024x1024 .bf16) (K0 K1 K2 K3 V0 V1 V2 V3 : Vec Ideal S1x256x256 .bf16)
    (wo : Vec Ideal S1024x1024 .bf16) (gp : Vec Ideal S1x1024 .f32) (q : Fin 1024 → EReal) (kt : Fin 1024 → Fin 256 → EReal) (v : Fin 256 → Fin 1024 → EReal) (r : Fin 512) (l : Fin 1024)
    (hq : ∀ k, k0_pay5 (F := Ideal) v29 v31 v32 wq (ix2 r k) = q k * xaScale)
    (hK0 : ∀ d m, K0 (ix3 0 d m) = kt (lane 0 d) m) (hK1 : ∀ d m, K1 (ix3 0 d m) = kt (lane 1 d) m)
    (hK2 : ∀ d m, K2 (ix3 0 d m) = kt (lane 2 d) m) (hK3 : ∀ d m, K3 (ix3 0 d m) = kt (lane 3 d) m)
    (hV0 : ∀ m d, V0 (ix3 0 m d) = v m (lane 0 d)) (hV1 : ∀ m d, V1 (ix3 0 m d) = v m (lane 1 d))
    (hV2 : ∀ m d, V2 (ix3 0 m d) = v m (lane 2 d)) (hV3 : ∀ m d, V3 (ix3 0 m d) = v m (lane 3 d)) :
    k0_pay1 (F := Ideal) v29 (k0_pay12 (k0_pay8 v29 v31 v32 wq K2)) (k0_pay13 (k0_pay9 v29 v31 v32 wq K3))
      (k0_pay14 (k0_pay7 v29 v31 v32 wq K1) V1) (k0_pay15 (k0_pay8 v29 v31 v32 wq K2) V2) (k0_pay16 (k0_pay9 v29 v31 v32 wq K3) V3)
      (k0_pay17 (k0_pay6 v29 v31 v32 wq K0) (k0_pay10 v29 v31 v32 wq K0) V0) (k0_pay18 (k0_pay7 v29 v31 v32 wq K1)) wo gp (ix2 r l)
      = kpostAt (fun k => v29 (ix2 r k)) q kt v (fun e j => wo (ix2 e j)) (fun k => gp (ix2 0 k)) l := by
  have l0 : ∀ d : Fin 256, (⟨d.val, by omega⟩ : Fin 1024) = lane 0 d := fun d => Fin.ext (by show d.val = 256 * 0 + d.val; omega)
  have l1 : ∀ d : Fin 256, (⟨256 + d.val, by omega⟩ : Fin 1024) = lane 1 d := fun d => Fin.ext (by show 256 + d.val = 256 * 1 + d.val; omega)
  have l2 : ∀ d : Fin 256, (⟨512 + d.val, by omega⟩ : Fin 1024) = lane 2 d := fun d => Fin.ext (by show 512 + d.val = 256 * 2 + d.val; omega)
  have l3 : ∀ d : Fin 256, (⟨768 + d.val, by omega⟩ : Fin 1024) = lane 3 d := fun d => Fin.ext (by show 768 + d.val = 256 * 3 + d.val; omega)
  have hS : ∀ hd m, kscAt q kt hd m = ∑ d : Fin 256, (q (lane hd d) * xaScale) * kt (lane hd d) m := fun hd m => rfl
  have t0 : ∀ k, k0_pay6 (F := Ideal) v29 v31 v32 wq K0 (ix2 r k) = kscAt q kt 0 k := fun k => by
    rw [s0_at, hS]; simp only [hq, hK0, l0]
  have t1 : ∀ k, k0_pay7 (F := Ideal) v29 v31 v32 wq K1 (ix2 r k) = kscAt q kt 1 k := fun k => by
    rw [s1_at, hS]; simp only [hq, hK1, l1]
  have t2 : ∀ k, k0_pay8 (F := Ideal) v29 v31 v32 wq K2 (ix2 r k) = kscAt q kt 2 k := fun k => by
    rw [s2_at, hS]; simp only [hq, hK2, l2]
  have t3 : ∀ k, k0_pay9 (F := Ideal) v29 v31 v32 wq K3 (ix2 r k) = kscAt q kt 3 k := fun k => by
    rw [s3_at, hS]; simp only [hq, hK3, l3]
  exact heads_at v29 _ _ _ _ _ V0 V1 V2 V3 wo gp v (kscAt q kt) r l t0 t1 t2 t3 (fun k => by rw [m0_at]; simp only [t0]) hV0 hV1 hV2 hV3

end Cert.PostIdeal.Own
end
-- ==== Proof.PostValue.lean ====
/-  The post kernel's result array. -/
module

public import proofs.«01_k».proof.Proof.PostHeads
public import proofs.«01_k».proof.Proof.PostHost
public import proofs.«01_k».proof.Proof.PostRefValue
public import proofs.«01_k».proof.Proof.Gen.PostIdeal.Value
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.PostIdeal.Own
open Cert.PostIdeal Cert.PostIdeal.Gen Cert.Own

variable (m : (ℓ : Loc nD τ sig) → Buf (Elt Ideal) ℓ) (ρ : Dev nD → PrngReg)

/-- The block the body leaves, at row `r` and lane `l`. -/
theorem out_at (x0 : Vec Ideal S512x1024 .f32) (x1 : Vec Ideal S512x512 .bf16) (x2 : Vec Ideal S512x512 .bf16) (x3 : Vec Ideal S512x256 .bf16) (x4 : Vec Ideal S512x1024 .bf16)
    (x5 : Vec Ideal S512x1024 .bf16) (x6 : Vec Ideal S256x1024 .bf16) (x7 : Vec Ideal S1x1024 .f32) (x8 : Vec Ideal S1x1024 .f32) (x9 : Vec Ideal S1024x1024 .bf16)
    (x10 : Vec Ideal S1x1024x256 .bf16) (x11 : Vec Ideal S1x256x1024 .bf16) (x12 : Vec Ideal S1024x1024 .bf16) (x13 : Vec Ideal S1x1024 .f32) (r : Fin 512) (l : Fin 1024)
    (h1 : Fin 1024 → EReal)
    (hh : ∀ l, h1 l = h1At (fun k => x0 (ix2 r k)) (fun j => ∑ k, x1 (ix2 r k) * x4 (ix2 k j) + ∑ k, x2 (ix2 r k) * x5 (ix2 k j) + ∑ k, x3 (ix2 r k) * x6 (ix2 k j)) (fun k => x7 (ix2 0 k)) l) :
    out0_14 (F := Ideal) x0 x1 x2 x3 x4 x5 x6 x7 x8 x9 x10 x11 x12 x13 (ix2 r l)
      = kpostAt h1 (qAt h1 (fun k => x8 (ix2 0 k)) (fun k j => x9 (ix2 k j)))
          (fun k m => x10 (ix3 0 k m)) (fun m e => x11 (ix3 0 m e)) (fun e j => x12 (ix2 e j)) (fun k => x13 (ix2 0 k)) l := by
  have e19 : k0_pay19 (F := Ideal) x0 x1 x2 x3 x4 x5 x6 x7 x8 x9 x10 x11 x12 x13 = k0_pay2 x1 x4 x2 x5 x3 x6 x0 x7 := by
    unfold k0_pay19
    simp (disch := decide) only [r0_0, r0_1, r0_2, r0_3, r0_4, r0_5, View.ld_unit_lit']
  have e20 : k0_pay20 (F := Ideal) x0 x1 x2 x3 x4 x5 x6 x7 x8 x9 x10 x11 x12 x13 = k0_pay3 x8 := by
    unfold k0_pay20
    simp (disch := decide) only [r0_0, r0_1, r0_2, r0_3, r0_4, r0_5, View.ld_unit_lit']
  have e21 : k0_pay21 (F := Ideal) x0 x1 x2 x3 x4 x5 x6 x7 x8 x9 x10 x11 x12 x13 = k0_pay4 x1 x4 x2 x5 x3 x6 x0 x7 := by
    unfold k0_pay21
    simp (disch := decide) only [r0_0, r0_1, r0_2, r0_3, r0_4, r0_5, View.ld_unit_lit']
  have e29 : ∀ l, k0_pay2 (F := Ideal) x1 x4 x2 x5 x3 x6 x0 x7 (ix2 r l) = h1 l := fun l => by rw [h1_at, hh]
  have e4 : k0_pay4 (F := Ideal) x1 x4 x2 x5 x3 x6 x0 x7 = mulf (k0_pay2 (F := Ideal) x1 x4 x2 x5 x3 x6 x0 x7) (k0_pay2 x1 x4 x2 x5 x3 x6 x0 x7) := by
    unfold k0_pay4 k0_pay2
    rfl
  frame_out
  unfold k0_pay24 k0_pay23 k0_pay22
  simp only [e19, e20, e21]
  simp (disch := decide) only [r0_5, View.ld_unit_lit']
  rw [core_at (v29 := k0_pay2 (F := Ideal) x1 x4 x2 x5 x3 x6 x0 x7) (q := qAt h1 (fun k => x8 (ix2 0 k)) (fun k j => x9 (ix2 k j))) (kt := fun k m => x10 (ix3 0 k m))
    (v := fun m e => x11 (ix3 0 m e))]
  · simp only [e29]
  · intro k
    rw [e4, q_at]
    have e3 : ∀ k, k0_pay3 (F := Ideal) x8 (ix2 0 k) = x8 (ix2 0 k) := fun k => by
      pointwise [k0_pay3]
    simp only [e29, e3]
  · intro d n
    rw [View.ld_apply]
    exact congrArg x10 (funext fun a => Fin.ext (by match a with | ⟨0, _⟩ => rfl | ⟨1, _⟩ => show 0 + 1 * d.val = 256 * 0 + d.val; omega | ⟨2, _⟩ => show 0 + 1 * n.val = n.val; omega))
  · intro d n
    rw [View.ld_apply]
    exact congrArg x10 (funext fun a => Fin.ext (by match a with | ⟨0, _⟩ => rfl | ⟨1, _⟩ => show 256 + 1 * d.val = 256 * 1 + d.val; omega | ⟨2, _⟩ => show 0 + 1 * n.val = n.val; omega))
  · intro d n
    rw [View.ld_apply]
    exact congrArg x10 (funext fun a => Fin.ext (by match a with | ⟨0, _⟩ => rfl | ⟨1, _⟩ => show 512 + 1 * d.val = 256 * 2 + d.val; omega | ⟨2, _⟩ => show 0 + 1 * n.val = n.val; omega))
  · intro d n
    rw [View.ld_apply]
    exact congrArg x10 (funext fun a => Fin.ext (by match a with | ⟨0, _⟩ => rfl | ⟨1, _⟩ => show 768 + 1 * d.val = 256 * 3 + d.val; omega | ⟨2, _⟩ => show 0 + 1 * n.val = n.val; omega))
  · intro n d
    rw [View.ld_apply]
    exact congrArg x11 (funext fun a => Fin.ext (by match a with | ⟨0, _⟩ => rfl | ⟨1, _⟩ => show 0 + 1 * n.val = n.val; omega | ⟨2, _⟩ => show 0 + 1 * d.val = 256 * 0 + d.val; omega))
  · intro n d
    rw [View.ld_apply]
    exact congrArg x11 (funext fun a => Fin.ext (by match a with | ⟨0, _⟩ => rfl | ⟨1, _⟩ => show 0 + 1 * n.val = n.val; omega | ⟨2, _⟩ => show 256 + 1 * d.val = 256 * 1 + d.val; omega))
  · intro n d
    rw [View.ld_apply]
    exact congrArg x11 (funext fun a => Fin.ext (by match a with | ⟨0, _⟩ => rfl | ⟨1, _⟩ => show 0 + 1 * n.val = n.val; omega | ⟨2, _⟩ => show 512 + 1 * d.val = 256 * 2 + d.val; omega))
  · intro n d
    rw [View.ld_apply]
    exact congrArg x11 (funext fun a => Fin.ext (by match a with | ⟨0, _⟩ => rfl | ⟨1, _⟩ => show 0 + 1 * n.val = n.val; omega | ⟨2, _⟩ => show 768 + 1 * d.val = 256 * 3 + d.val; omega))

/-- The block index of every window at a grid point. -/
theorem idx (t : Fin cfg0.N) : win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val / 8, 0, 0] ∧ win0_11.index t = ![t.val / 8, 0, 0] ∧ win0_12.index t = ![0, 0] ∧ win0_13.index t = ![0, 0] ∧ win0_14.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0] ∧ win0_9.index t = ![0, 0]
    ∧ win0_10.index t = ![t.val / 8, 0, 0] ∧ win0_11.index t = ![t.val / 8, 0, 0] ∧ win0_12.index t = ![0, 0] ∧ win0_13.index t = ![0, 0] ∧ win0_14.index t = ![t.val, 0]) t

/-- The residual rows of a point. -/
theorem b0 (c : Dev nD) (t : Fin cfg0.N) (y0 : Fin 512) (k : Fin 1024) : iblk m c 0 t (ix2 y0 k) = m ((c : Thread nD τ).loc main_arg0) (ix2 ⟨512 * t.val + y0.val, by have : t.val < 64 := t.isLt; omega⟩ k) := by
  blk_ext! [iblk, V_main_arg0 m c, idx t]
/-- The first mixer's rows of a point. -/
theorem b1 (c : Dev nD) (t : Fin cfg0.N) (y0 : Fin 512) (k : Fin 512) : iblk m c 1 t (ix2 y0 k) = m ((c : Thread nD τ).loc main_arg1) (ix2 ⟨512 * t.val + y0.val, by have : t.val < 64 := t.isLt; omega⟩ k) := by
  blk_ext! [iblk, V_main_arg1 m c, idx t]
/-- The attention's rows of a point. -/
theorem b2 (c : Dev nD) (t : Fin cfg0.N) (y0 : Fin 512) (k : Fin 512) : iblk m c 2 t (ix2 y0 k) = m ((c : Thread nD τ).loc main_arg2) (ix2 ⟨512 * t.val + y0.val, by have : t.val < 64 := t.isLt; omega⟩ k) := by
  blk_ext! [iblk, V_main_arg2 m c, idx t]
/-- The third mixer's rows of a point. -/
theorem b3 (c : Dev nD) (t : Fin cfg0.N) (y0 : Fin 512) (k : Fin 256) : iblk m c 3 t (ix2 y0 k) = m ((c : Thread nD τ).loc main_arg3) (ix2 ⟨512 * t.val + y0.val, by have : t.val < 64 := t.isLt; omega⟩ k) := by
  blk_ext! [iblk, V_main_arg3 m c, idx t]
/-- The keys of a point's batch. -/
theorem b10 (c : Dev nD) (t : Fin cfg0.N) (k : Fin 1024) (n : Fin 256) : iblk m c 10 t (ix3 0 k n) = m ((c : Thread nD τ).loc main_arg8) (ix3 ⟨t.val / 8, by have : t.val < 64 := t.isLt; omega⟩ k n) := by
  blk_ext! [iblk, V_main_arg8 m c, idx t]
/-- The values of a point's batch. -/
theorem b11 (c : Dev nD) (t : Fin cfg0.N) (n : Fin 256) (k : Fin 1024) : iblk m c 11 t (ix3 0 n k) = m ((c : Thread nD τ).loc main_arg9) (ix3 ⟨t.val / 8, by have : t.val < 64 := t.isLt; omega⟩ n k) := by
  blk_ext! [iblk, V_main_arg9 m c, idx t]
/-- The first mixer's weights. -/
theorem b4 (c : Dev nD) (t : Fin cfg0.N) (k : Fin 512) (l : Fin 1024) : iblk m c 4 t (ix2 k l) = m ((c : Thread nD τ).loc main_arg4) (ix2 ⟨k.val, by omega⟩ l) := by
  have e : ((View.whole main_v1).slice (win0_4.rect t)).emb (ix2 k l) = ix2 k l := by
    funext a; apply Fin.ext
    match a with
    | ⟨0, _⟩ => blk_simp [idx t]
    | ⟨1, _⟩ => blk_simp [idx t]
  show V m c main_v1 (((View.whole main_v1).slice (win0_4.rect t)).emb (ix2 k l)) = _
  rw [e, v1_eq]
  pointwise
/-- The attention's weights at a lane: a head's 64 rows, zero past them. -/
def sp (w : S1024x1024.Idx → EReal) (l : Fin 1024) (k : Fin 512) : EReal :=
  if hk : k.val % 128 < 64 then w (ix2 ⟨512 + 64 * (k.val / 128) + k.val % 128, by omega⟩ l) else 0
/-- The attention's weights, spread over the padded lanes. -/
theorem b5 (c : Dev nD) (t : Fin cfg0.N) (k : Fin 512) (l : Fin 1024) : iblk m c 5 t (ix2 k l) = sp (m ((c : Thread nD τ).loc main_arg4)) l k := by
  have e : ((View.whole main_v6).slice (win0_5.rect t)).emb (ix2 k l) = ix2 k l := by
    funext a; apply Fin.ext
    match a with
    | ⟨0, _⟩ => blk_simp [idx t]
    | ⟨1, _⟩ => blk_simp [idx t]
  show V m c main_v6 (((View.whole main_v6).slice (win0_5.rect t)).emb (ix2 k l)) = _
  rw [e, v6_eq]
  refine Eq.trans ?_ (spread_at (m ((c : Thread nD τ).loc main_arg4)) l k)
  generalize spread (m ((c : Thread nD τ).loc main_arg4)) = y
  pointwise
/-- The third mixer's weights. -/
theorem b6 (c : Dev nD) (t : Fin cfg0.N) (k : Fin 256) (l : Fin 1024) : iblk m c 6 t (ix2 k l) = m ((c : Thread nD τ).loc main_arg4) (ix2 ⟨768 + k.val, by omega⟩ l) := by
  have e : ((View.whole main_v8).slice (win0_6.rect t)).emb (ix2 k l) = ix2 k l := by
    funext a; apply Fin.ext
    match a with
    | ⟨0, _⟩ => blk_simp [idx t]
    | ⟨1, _⟩ => blk_simp [idx t]
  show V m c main_v8 (((View.whole main_v8).slice (win0_6.rect t)).emb (ix2 k l)) = _
  rw [e, v8_eq]
  pointwise
/-- The first norm's weights. -/
theorem b7 (c : Dev nD) (t : Fin cfg0.N) (k : Fin 1024) : iblk m c 7 t (ix2 0 k) = m ((c : Thread nD τ).loc main_arg5) (ix1 k) := by
  have e : ((View.whole main_v9).slice (win0_7.rect t)).emb (ix2 0 k) = ix2 0 k := by
    funext a; apply Fin.ext
    match a with
    | ⟨0, _⟩ => blk_simp [idx t]
    | ⟨1, _⟩ => blk_simp [idx t]
  show V m c main_v9 (((View.whole main_v9).slice (win0_7.rect t)).emb (ix2 0 k)) = _
  rw [e, v9_eq]
  pointwise
/-- The second norm's weights. -/
theorem b8 (c : Dev nD) (t : Fin cfg0.N) (k : Fin 1024) : iblk m c 8 t (ix2 0 k) = m ((c : Thread nD τ).loc main_arg6) (ix1 k) := by
  have e : ((View.whole main_v10).slice (win0_8.rect t)).emb (ix2 0 k) = ix2 0 k := by
    funext a; apply Fin.ext
    match a with
    | ⟨0, _⟩ => blk_simp [idx t]
    | ⟨1, _⟩ => blk_simp [idx t]
  show V m c main_v10 (((View.whole main_v10).slice (win0_8.rect t)).emb (ix2 0 k)) = _
  rw [e, v10_eq]
  pointwise
/-- The query weights. -/
theorem b9 (c : Dev nD) (t : Fin cfg0.N) (k : Fin 1024) (l : Fin 1024) : iblk m c 9 t (ix2 k l) = m ((c : Thread nD τ).loc main_arg7) (ix2 k l) := by
  have e : ((View.whole main_v11).slice (win0_9.rect t)).emb (ix2 k l) = ix2 k l := by
    funext a; apply Fin.ext
    match a with
    | ⟨0, _⟩ => blk_simp [idx t]
    | ⟨1, _⟩ => blk_simp [idx t]
  show V m c main_v11 (((View.whole main_v11).slice (win0_9.rect t)).emb (ix2 k l)) = _
  rw [e, v11_eq]
  pointwise
/-- The weights after the memory attention. -/
theorem b12 (c : Dev nD) (t : Fin cfg0.N) (k : Fin 1024) (l : Fin 1024) : iblk m c 12 t (ix2 k l) = m ((c : Thread nD τ).loc main_arg10) (ix2 k l) := by
  have e : ((View.whole main_v12).slice (win0_12.rect t)).emb (ix2 k l) = ix2 k l := by
    funext a; apply Fin.ext
    match a with
    | ⟨0, _⟩ => blk_simp [idx t]
    | ⟨1, _⟩ => blk_simp [idx t]
  show V m c main_v12 (((View.whole main_v12).slice (win0_12.rect t)).emb (ix2 k l)) = _
  rw [e, v12_eq]
  pointwise
/-- The last norm's weights. -/
theorem b13 (c : Dev nD) (t : Fin cfg0.N) (k : Fin 1024) : iblk m c 13 t (ix2 0 k) = m ((c : Thread nD τ).loc main_arg11) (ix1 k) := by
  have e : ((View.whole main_v13).slice (win0_13.rect t)).emb (ix2 0 k) = ix2 0 k := by
    funext a; apply Fin.ext
    match a with
    | ⟨0, _⟩ => blk_simp [idx t]
    | ⟨1, _⟩ => blk_simp [idx t]
  show V m c main_v13 (((View.whole main_v13).slice (win0_13.rect t)).emb (ix2 0 k)) = _
  rw [e, v13_eq]
  pointwise

/-- Finite arguments, but for the values and the last two weights. -/
structure Good (x0 : S32768x1024.Idx → EReal) (x1 : S32768x512.Idx → EReal) (x2 : S32768x512.Idx → EReal) (x3 : S32768x256.Idx → EReal) (x4 : S1024x1024.Idx → EReal) (x5 : S1024.Idx → EReal) (x6 : S1024.Idx → EReal) (x7 : S1024x1024.Idx → EReal) (x8 : S8x1024x256.Idx → EReal) : Prop where
  f0 : ∀ y, IsFin (x0 y)
  f1 : ∀ y, IsFin (x1 y)
  f2 : ∀ y, IsFin (x2 y)
  f3 : ∀ y, IsFin (x3 y)
  f4 : ∀ y, IsFin (x4 y)
  f5 : ∀ y, IsFin (x5 y)
  f6 : ∀ y, IsFin (x6 y)
  f7 : ∀ y, IsFin (x7 y)
  f8 : ∀ y, IsFin (x8 y)

/-- The residual row in the padded lanes is the specification's. -/
theorem row_eq (x0 : S32768x1024.Idx → EReal) (x1 x2 : S32768x512.Idx → EReal) (x3 : S32768x256.Idx → EReal) (x4 : S1024x1024.Idx → EReal) (x5 : S1024.Idx → EReal)
    (p : Fin 32768) (l : Fin 1024) : Cert.PostRefIdeal.Own.rowH x0 x1 x2 x3 x4 x5 p l
      = h1At (fun k => x0 (ix2 p k)) (fun j => ∑ k, x1 (ix2 p k) * x4 (ix2 ⟨k.val, by omega⟩ j) + ∑ k, x2 (ix2 p k) * sp x4 j k
          + ∑ k : Fin 256, x3 (ix2 p k) * x4 (ix2 ⟨768 + k.val, by omega⟩ j)) (fun k => x5 (ix1 k)) l := by
  unfold Cert.PostRefIdeal.Own.rowH
  refine congrArg (fun f => h1At _ f _ l) (funext fun j => ?_)
  unfold mixAt
  rw [← spread_sum (fun k => x2 (ix2 p k)) (fun i => x4 (ix2 i j))]
  rfl

/-- The row as the kernel orders it is the specification's, for finite arguments. -/
theorem g_eq (x0 : S32768x1024.Idx → EReal) (x1 x2 : S32768x512.Idx → EReal) (x3 : S32768x256.Idx → EReal) (x4 : S1024x1024.Idx → EReal) (x5 x6 : S1024.Idx → EReal)
    (x7 : S1024x1024.Idx → EReal) (x8 : S8x1024x256.Idx → EReal) (x9 : S8x256x1024.Idx → EReal) (x10 : S1024x1024.Idx → EReal) (x11 : S1024.Idx → EReal)
    (hg : Good x0 x1 x2 x3 x4 x5 x6 x7 x8) (t : ℕ) (ht : t < 64) (y0 : Fin 512) (y1 : Fin 1024) :
    kpostAt (Cert.PostRefIdeal.Own.rowH x0 x1 x2 x3 x4 x5 ⟨512 * t + y0.val, by omega⟩)
      (qAt (Cert.PostRefIdeal.Own.rowH x0 x1 x2 x3 x4 x5 ⟨512 * t + y0.val, by omega⟩) (fun k => x6 (ix1 k)) (fun k j => x7 (ix2 k j)))
      (fun k κ => x8 (ix3 ⟨t / 8, by omega⟩ k κ)) (fun κ e => x9 (ix3 ⟨t / 8, by omega⟩ κ e)) (fun e l => x10 (ix2 e l)) (fun k => x11 (ix1 k)) y1
      = Cert.PostRefIdeal.Own.G x0 x1 x2 x3 x4 x5 x6 x7 x8 x9 x10 x11 (ix2 ⟨512 * t + y0.val, by omega⟩ y1) := by
  rw [kpost_eq _ _ _ _ _ _ (fun k => ?_) (fun k κ => hg.f8 _)]
  · have e : (⟨t / 8, by omega⟩ : Fin 8) = ⟨(512 * t + y0.val) / 4096, by omega⟩ := Fin.ext (by show t / 8 = (512 * t + y0.val) / 4096; omega)
    rw [e]
    rfl
  · exact q_fin (fun k => hg.f0 _) (mix_fin (fun k => hg.f1 _) (fun k => hg.f2 _) (fun k => hg.f3 _) (fun k l => hg.f4 _)) (fun k => hg.f5 _) (fun k => hg.f6 _)
      (fun k l => hg.f7 _) k

/-- The array after the run is the specification's, for finite arguments. -/
theorem final (c : Dev nD) (hg : Good (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : (dats m 0 c).arrAt 14 cfg0.N = Cert.PostRefIdeal.Own.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 14 _ (by decide +kernel) fun t hf y => ?_
  have ht : t.val < 64 := t.isLt
  blk_simp
  rw [after0_14]
  idx_vars y
  have hp : ((View.whole main_v14).slice (win0_14.rect t)).emb (ix2 y0 y1) = ix2 (⟨512 * t.val + y0.val, by omega⟩ : Fin 32768) y1 := by
    funext a; apply Fin.ext
    match a with
    | ⟨0, _⟩ => blk_simp [idx t]; show t.val * 512 + y0.val = 512 * t.val + y0.val; omega
    | ⟨1, _⟩ => blk_simp [idx t]
  rw [out_at (h1 := Cert.PostRefIdeal.Own.rowH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ⟨512 * t.val + y0.val, by omega⟩)]
  · simp only [b8, b9, b10, b11, b12, b13]
    rw [hp]
    exact g_eq _ _ _ _ _ _ _ _ _ _ _ _ hg t.val ht y0 y1
  · intro l
    rw [row_eq]
    simp only [b0, b1, b2, b3, b4, b5, b6, b7]

/-- The kernel's run: the result array is the specification's, the arguments end unchanged. -/
theorem run (hg : ∀ c : Dev nD, Good (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : θ_run defs (onTc (τ := τ) (main (F := Ideal))) ⟨m, fun _ => 0, ρ⟩ fun r => ∀ c : Dev nD,
      r.2.mem ((c : Thread nD τ).loc main_v14) = Cert.PostRefIdeal.Own.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) :=
  (θ_run defs _ _).mono (fun _ h c => ⟨(h c).1.trans (final m c (hg c)), (h c).2⟩) (Value.run_blocks m ρ)

end Cert.PostIdeal.Own
end
-- ==== Proof.PostPre.lean ====
/-  What the post call's precondition says: all but the values and the last two weights are finite. -/
module

public import proofs.«01_k».proof.Proof.PostValue
public import proofs.«01_k».proof.Proof.AttnPre
public import proofs.«01_k».proof.Pre_post_finite
public import Idealize.ShloMosaic.Lib.ReduceAll

@[expose] public section
set_option maxRecDepth 16384
noncomputable section
open Idealize.ShloMosaic
namespace Cert.Pre_post_finite.Own
open Cert.Pre_post_finite Cert.Own
open Cert.Pre_attn_finite.Own (fin_of_abs)
variable [Facts]
open Facts

/-- The precondition, read. -/
theorem good (x0 : FVec Ideal S32768x1024 .f32) (x1 x2 : FVec Ideal S32768x512 .bf16) (x3 : FVec Ideal S32768x256 .bf16) (x4 : FVec Ideal S1024x1024 .f32) (x5 x6 : FVec Ideal S1024 .f32)
    (x7 : FVec Ideal S1024x1024 .f32) (x8 : FVec Ideal S8x1024x256 .bf16) (x9 : FVec Ideal S8x256x1024 .bf16) (x10 : FVec Ideal S1024x1024 .f32) (x11 : FVec Ideal S1024 .f32)
    (h : fn (F := Ideal) x0 x1 x2 x3 x4 x5 x6 x7 x8 x9 x10 x11 = fun _ => 1#1) : Cert.PostIdeal.Own.Good x0 x1 x2 x3 x4 x5 x6 x7 x8 := by
  have h := congrFun h ix0
  unfold fn fn_part1 fn_part2 at h
  obtain ⟨g8, h8⟩ := IntOp.andi_eq_one.1 h
  obtain ⟨g7, h7⟩ := IntOp.andi_eq_one.1 g8
  obtain ⟨g6, h6⟩ := IntOp.andi_eq_one.1 g7
  obtain ⟨g5, h5⟩ := IntOp.andi_eq_one.1 g6
  obtain ⟨g4, h4⟩ := IntOp.andi_eq_one.1 g5
  obtain ⟨g3, h3⟩ := IntOp.andi_eq_one.1 g4
  obtain ⟨g2, h2⟩ := IntOp.andi_eq_one.1 g3
  obtain ⟨g1, h1⟩ := IntOp.andi_eq_one.1 g2
  obtain ⟨g0, h0⟩ := IntOp.andi_eq_one.1 g1
  haveI : Subsingleton S_.Idx := ⟨fun a b => funext fun i => i.elim0⟩
  have k0 := Host.reduce_andi_all _ _ _ _ _ h0
  have k1 := Host.reduce_andi_all _ _ _ _ _ h1
  have k2 := Host.reduce_andi_all _ _ _ _ _ h2
  have k3 := Host.reduce_andi_all _ _ _ _ _ h3
  have k4 := Host.reduce_andi_all _ _ _ _ _ h4
  have k5 := Host.reduce_andi_all _ _ _ _ _ h5
  have k6 := Host.reduce_andi_all _ _ _ _ _ h6
  have k7 := Host.reduce_andi_all _ _ _ _ _ h7
  have k8 := Host.reduce_andi_all _ _ _ _ _ h8
  exact ⟨fun y => fin_of_abs _ (k0 y), fun y => fin_of_abs _ (k1 y), fun y => fin_of_abs _ (k2 y), fun y => fin_of_abs _ (k3 y), fun y => fin_of_abs _ (k4 y), fun y => fin_of_abs _ (k5 y), fun y => fin_of_abs _ (k6 y), fun y => fin_of_abs _ (k7 y), fun y => fin_of_abs _ (k8 y)⟩

end Cert.Pre_post_finite.Own
end
-- ==== Proof.lean ====
/-  The proof of what is claimed: every run ends, its arguments unchanged; the idealizations stand; and the kernels compute what
    the references compute. The value proofs are in the modules beside this file. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvRefIdeal
public import proofs.«01_k».proof.Proof.Gen.Mixers
public import proofs.«01_k».proof.Proof.Gen.Mixers.Skeleton
public import proofs.«01_k».proof.Proof.Gen.Mixers.Launch
public import proofs.«01_k».proof.Proof.Gen.Mixers.Points
public import proofs.«01_k».proof.Proof.Gen.Mixers.Frame
public import proofs.«01_k».proof.Proof.Gen.AttnIdeal.Value
public import proofs.«01_k».proof.Proof.Gen.AttnRefIdeal.Read
public import proofs.«01_k».proof.Proof.Gen.FfnIdeal.Value
public import proofs.«01_k».proof.Proof.Gen.FfnRefIdeal.Read
public import proofs.«01_k».proof.Proof.Gen.InprojIdeal.Value
public import proofs.«01_k».proof.Proof.Gen.InprojRefIdeal.Read
public import proofs.«01_k».proof.Proof.Gen.PostIdeal.Value
public import proofs.«01_k».proof.Proof.Gen.PostRefIdeal.Read
public import proofs.«01_k».proof.Proof.Gen.MemkvIdeal.Value
public import proofs.«01_k».proof.Proof.Gen.MemkvRefIdeal.Read
public import proofs.«01_k».proof.Proof.FfnRefValue
public import proofs.«01_k».proof.Proof.AttnRefRun
public import proofs.«01_k».proof.Proof.AttnPre
public import proofs.«01_k».proof.Proof.Gen.Pre_attn_finite
public import proofs.«01_k».proof.Proof.PostRefRun
public import proofs.«01_k».proof.Proof.PostPre
public import proofs.«01_k».proof.Proof.Gen.Pre_post_finite
public import Idealize.ShloMosaic.Adequacy
public import Idealize.ShloMosaic.Init

@[expose] public section

noncomputable section

namespace Cert.Proof

open Idealize.ShloMosaic Idealize.SL.Sem Cert.Attn

/-- The run of Attn ends with its arguments unchanged and every counter at zero. -/
theorem quiescent_Attn' : Cert.quiescent_Attn := fun m ρ _ => Cert.Attn.Gen.frame m ρ

/-- The run of AttnIdeal ends with its arguments unchanged and every counter at zero. -/
theorem quiescent_AttnIdeal' : Cert.quiescent_AttnIdeal := fun m ρ _ => Cert.AttnIdeal.Gen.frame m ρ

/-- The run of AttnIdeal ends with its arguments unchanged and every counter at zero. -/
theorem quiescent_AttnIdeal_pre_attn_finite' : Cert.quiescent_AttnIdeal_pre_attn_finite := fun m ρ _ => Cert.AttnIdeal.Gen.frame m ρ

/-- The run of AttnRefIdeal ends with its arguments unchanged and every counter at zero. -/
theorem quiescent_AttnRefIdeal' : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The run of AttnRefIdeal ends with its arguments unchanged and every counter at zero. -/
theorem quiescent_AttnRefIdeal_pre_attn_finite' : Cert.quiescent_AttnRefIdeal_pre_attn_finite := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The run of Ffn ends with its arguments unchanged and every counter at zero. -/
theorem quiescent_Ffn' : Cert.quiescent_Ffn := fun m ρ _ => Cert.Ffn.Gen.frame m ρ

/-- The run of FfnIdeal ends with its arguments unchanged and every counter at zero. -/
theorem quiescent_FfnIdeal' : Cert.quiescent_FfnIdeal := fun m ρ _ => Cert.FfnIdeal.Gen.frame m ρ

/-- The run of FfnRefIdeal ends with its arguments unchanged and every counter at zero. -/
theorem quiescent_FfnRefIdeal' : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The run of Inproj ends with its arguments unchanged and every counter at zero. -/
theorem quiescent_Inproj' : Cert.quiescent_Inproj := fun m ρ _ => Cert.Inproj.Gen.frame m ρ

/-- The run of InprojIdeal ends with its arguments unchanged and every counter at zero. -/
theorem quiescent_InprojIdeal' : Cert.quiescent_InprojIdeal := fun m ρ _ => Cert.InprojIdeal.Gen.frame m ρ

/-- The run of InprojRefIdeal ends with its arguments unchanged and every counter at zero. -/
theorem quiescent_InprojRefIdeal' : Cert.quiescent_InprojRefIdeal := fun m ρ _ =>
  (θ_run Cert.InprojRefIdeal.defs _ _).mono (fun r h => ⟨fun c => (h c).2.2.2.2.2.2, sem_eq_zero_of_no_sems (by decide) r.2⟩)
    (Cert.InprojRefIdeal.Value.run (F := Ideal) m ρ)

/-- The run of Post ends with its arguments unchanged and every counter at zero. -/
theorem quiescent_Post' : Cert.quiescent_Post := fun m ρ _ => Cert.Post.Gen.frame m ρ

/-- The run of PostIdeal ends with its arguments unchanged and every counter at zero. -/
theorem quiescent_PostIdeal' : Cert.quiescent_PostIdeal := fun m ρ _ => Cert.PostIdeal.Gen.frame m ρ

/-- The run of PostIdeal ends with its arguments unchanged and every counter at zero. -/
theorem quiescent_PostIdeal_pre_post_finite' : Cert.quiescent_PostIdeal_pre_post_finite := fun m ρ _ => Cert.PostIdeal.Gen.frame m ρ

/-- The run of PostRefIdeal ends with its arguments unchanged and every counter at zero. -/
theorem quiescent_PostRefIdeal' : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The run of PostRefIdeal ends with its arguments unchanged and every counter at zero. -/
theorem quiescent_PostRefIdeal_pre_post_finite' : Cert.quiescent_PostRefIdeal_pre_post_finite := fun m ρ _ =>
  (θ_run Cert.PostRefIdeal.defs _ _).mono (fun r h => ⟨fun c => (h c).2, sem_eq_zero_of_no_sems (by decide) r.2⟩)
    (Cert.PostRefIdeal.Value.run (F := Ideal) m ρ)

/-- The run of Memkv ends with its arguments unchanged and every counter at zero. -/
theorem quiescent_Memkv' : Cert.quiescent_Memkv := fun m ρ _ => Cert.Memkv.Gen.frame m ρ

/-- The run of MemkvIdeal ends with its arguments unchanged and every counter at zero. -/
theorem quiescent_MemkvIdeal' : Cert.quiescent_MemkvIdeal := fun m ρ _ => Cert.MemkvIdeal.Gen.frame m ρ

/-- The run of MemkvRefIdeal ends with its arguments unchanged and every counter at zero. -/
theorem quiescent_MemkvRefIdeal' : Cert.quiescent_MemkvRefIdeal := fun m ρ _ =>
  (θ_run Cert.MemkvRefIdeal.defs _ _).mono (fun r h => ⟨fun c => (h c).2.2, sem_eq_zero_of_no_sems (by decide) r.2⟩)
    (Cert.MemkvRefIdeal.Value.run (F := Ideal) m ρ)

/-- The run of Mixers ends with its arguments unchanged and every counter at zero. -/
theorem quiescent_Mixers' : Cert.quiescent_Mixers := fun m ρ _ => Cert.Mixers.Gen.frame m ρ

/-- The mask constant named in the idealization stands at the value its pattern rounds. -/
theorem preserves_Attn_AttnIdeal' : Cert.preserves_Attn_AttnIdeal := IdealRules.named_const.statement Cert.AttnIdeal.κ "mask" .f32 0xF149F2CA#32 ⊥ rfl

/-- Attn: the idealized kernel and reference run to equal results. -/
theorem algebraic_AttnIdeal_AttnRefIdeal_pre_attn_finite' : Cert.algebraic_AttnIdeal_AttnRefIdeal_pre_attn_finite := fun m ρ m' ρ' hpre hag =>
  have hg : ∀ c : Dev Cert.AttnIdeal.nD, Cert.AttnIdeal.Own.Good (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) :=
    fun c => Cert.Pre_attn_finite.Own.good _ _ _ (hpre c)
  ⟨fun c => Cert.AttnIdeal.Own.G (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)),
    Cert.AttnIdeal.Own.run m ρ hg,
    (θ_run Cert.AttnRefIdeal.defs _ _).mono (fun _ h c => ⟨(h c).1.trans (by
        rw [(hag c).1, (hag c).2.1, (hag c).2.2]), (h c).2⟩) (Cert.AttnRefIdeal.Own.run m' ρ' (fun c => by
        rw [(hag c).1, (hag c).2.1, (hag c).2.2]; exact hg c))⟩

/-- Nothing is rewritten. -/
theorem preserves_Ffn_FfnIdeal' : Cert.preserves_Ffn_FfnIdeal := trivial

/-- Ffn: the idealized kernel and reference run to equal results. -/
theorem algebraic_FfnIdeal_FfnRefIdeal' : Cert.algebraic_FfnIdeal_FfnRefIdeal := fun m ρ m' ρ' _ hag =>
  ⟨fun c => Cert.FfnIdeal.Own.G (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4)),
    Cert.FfnIdeal.Own.run m ρ,
    (θ_run Cert.FfnRefIdeal.defs _ _).mono (fun _ h c => ⟨(h c).1.trans (by
        rw [(hag c).1, (hag c).2.1, (hag c).2.2.1, (hag c).2.2.2.1, (hag c).2.2.2.2]), (h c).2⟩) (Cert.FfnRefIdeal.Own.run m' ρ')⟩

/-- The query scale named in the idealization stands for its constant. -/
theorem preserves_Inproj_InprojIdeal' : Cert.preserves_Inproj_InprojIdeal := IdealRules.named_const.statement Cert.InprojIdeal.κ "qscale" .f32 0x3E16C740#32 (((Real.sqrt 96)⁻¹ * (Real.log 2)⁻¹ : ℝ) : EReal) rfl

/-- Nothing is rewritten. -/
theorem preserves_Post_PostIdeal' : Cert.preserves_Post_PostIdeal := trivial

/-- Post: the idealized kernel and reference run to equal results. -/
theorem algebraic_PostIdeal_PostRefIdeal_pre_post_finite' : Cert.algebraic_PostIdeal_PostRefIdeal_pre_post_finite := fun m ρ m' ρ' hpre hag =>
  have hg : ∀ c : Dev Cert.PostIdeal.nD, Cert.PostIdeal.Own.Good (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) :=
    fun c => Cert.Pre_post_finite.Own.good _ _ _ _ _ _ _ _ _ _ _ _ (hpre c)
  ⟨fun c => Cert.PostRefIdeal.Own.G (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)),
    Cert.PostIdeal.Own.run m ρ hg,
    (θ_run Cert.PostRefIdeal.defs _ _).mono (fun _ h c => ⟨(h c).1.trans (by
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]), (h c).2⟩) (Cert.PostRefIdeal.Own.run m' ρ')⟩

/-- Nothing is rewritten. -/
theorem preserves_Memkv_MemkvIdeal' : Cert.preserves_Memkv_MemkvIdeal := trivial

/-- Everything claimed. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Inproj.Gen.facts, Cert.InprojIdeal.Gen.facts, Cert.InprojRefIdeal.Gen.facts, Cert.Post.Gen.facts, Cert.PostIdeal.Gen.facts, Cert.PostRefIdeal.Gen.facts, Cert.Memkv.Gen.facts, Cert.MemkvIdeal.Gen.facts, Cert.MemkvRefIdeal.Gen.facts, Cert.Mixers.Gen.facts, Cert.Pre_attn_finite.Gen.facts, Cert.Pre_post_finite.Gen.facts,
  quiescent_Attn', quiescent_AttnIdeal', quiescent_AttnIdeal_pre_attn_finite', quiescent_AttnRefIdeal', quiescent_AttnRefIdeal_pre_attn_finite', quiescent_Ffn', quiescent_FfnIdeal', quiescent_FfnRefIdeal', quiescent_Inproj', quiescent_InprojIdeal', quiescent_InprojRefIdeal', quiescent_Post', quiescent_PostIdeal', quiescent_PostIdeal_pre_post_finite', quiescent_PostRefIdeal', quiescent_PostRefIdeal_pre_post_finite', quiescent_Memkv', quiescent_MemkvIdeal', quiescent_MemkvRefIdeal', quiescent_Mixers', preserves_Attn_AttnIdeal', algebraic_AttnIdeal_AttnRefIdeal_pre_attn_finite', preserves_Ffn_FfnIdeal', algebraic_FfnIdeal_FfnRefIdeal', preserves_Inproj_InprojIdeal', preserves_Post_PostIdeal', algebraic_PostIdeal_PostRefIdeal_pre_post_finite', preserves_Memkv_MemkvIdeal'⟩

end Cert.Proof

end
